-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S14x1x6400 : Shape := ⟨3, ![14, 1, 6400]⟩
abbrev S14x1x5x160 : Shape := ⟨4, ![14, 1, 5, 160]⟩
abbrev S14x10240x5x160 : Shape := ⟨4, ![14, 10240, 5, 160]⟩
abbrev S14x5x160 : Shape := ⟨3, ![14, 5, 160]⟩
abbrev S14 : Shape := ⟨1, ![14]⟩
abbrev S14x6400 : Shape := ⟨2, ![14, 6400]⟩
abbrev S5x14x160 : Shape := ⟨3, ![5, 14, 160]⟩
abbrev S14x5x160x10240 : Shape := ⟨4, ![14, 5, 160, 10240]⟩
abbrev S14x800x10240 : Shape := ⟨3, ![14, 800, 10240]⟩
abbrev S14x800x1280 : Shape := ⟨3, ![14, 800, 1280]⟩
abbrev S680x128 : Shape := ⟨2, ![680, 128]⟩
abbrev S_ : Shape := ⟨0, ![]⟩
abbrev S4 : Shape := ⟨1, ![4]⟩
abbrev S2 : Shape := ⟨1, ![2]⟩
abbrev S1 : Shape := ⟨1, ![1]⟩
abbrev S14x800x128 : Shape := ⟨3, ![14, 800, 128]⟩
abbrev S1x800x1152 : Shape := ⟨3, ![1, 800, 1152]⟩
abbrev S800x1152 : Shape := ⟨2, ![800, 1152]⟩
abbrev S14x160 : Shape := ⟨2, ![14, 160]⟩
abbrev S14x128 : Shape := ⟨2, ![14, 128]⟩
abbrev S14x32 : Shape := ⟨2, ![14, 32]⟩
abbrev S1x14x160 : Shape := ⟨3, ![1, 14, 160]⟩
abbrev S8x1280 : Shape := ⟨2, ![8, 1280]⟩
abbrev S8x128 : Shape := ⟨2, ![8, 128]⟩
abbrev S8x32 : Shape := ⟨2, ![8, 32]⟩
abbrev S8x160 : Shape := ⟨2, ![8, 160]⟩
abbrev S1x1x160 : Shape := ⟨3, ![1, 1, 160]⟩
abbrev S1x160 : Shape := ⟨2, ![1, 160]⟩
abbrev S8 : Shape := ⟨1, ![8]⟩
abbrev S8x1 : Shape := ⟨2, ![8, 1]⟩
abbrev S1x160x1280 : Shape := ⟨3, ![1, 160, 1280]⟩
abbrev S160x1280 : Shape := ⟨2, ![160, 1280]⟩
abbrev S8x96 : Shape := ⟨2, ![8, 96]⟩

abbrev nBuf : Space → Nat
  | .hbm => 19
  | .vmem => 17
  | .smem => 1
  | _ => 0

abbrev bufTy : (tb : Table) → Fin (tcTables nBuf tb) → BufTy
  | .hbm, ⟨0, _⟩ => ⟨S14x1x6400, .bf16⟩
  | .hbm, ⟨1, _⟩ => ⟨S14x1x5x160, .bf16⟩
  | .hbm, ⟨2, _⟩ => ⟨S14x1x5x160, .bf16⟩
  | .hbm, ⟨3, _⟩ => ⟨S14x10240x5x160, .bf16⟩
  | .hbm, ⟨4, _⟩ => ⟨S14x10240x5x160, .fp8e4m3⟩
  | .hbm, ⟨5, _⟩ => ⟨S14x5x160, .f32⟩
  | .hbm, ⟨6, _⟩ => ⟨S14, .i32⟩
  | .hbm, ⟨7, _⟩ => ⟨S14x6400, .bf16⟩
  | .hbm, ⟨8, _⟩ => ⟨S14x5x160, .bf16⟩
  | .hbm, ⟨9, _⟩ => ⟨S5x14x160, .bf16⟩
  | .hbm, ⟨10, _⟩ => ⟨S14x5x160, .bf16⟩
  | .hbm, ⟨11, _⟩ => ⟨S5x14x160, .bf16⟩
  | .hbm, ⟨12, _⟩ => ⟨S5x14x160, .f32⟩
  | .hbm, ⟨13, _⟩ => ⟨S14x5x160x10240, .bf16⟩
  | .hbm, ⟨14, _⟩ => ⟨S14x800x10240, .bf16⟩
  | .hbm, ⟨15, _⟩ => ⟨S14x5x160x10240, .fp8e4m3⟩
  | .hbm, ⟨16, _⟩ => ⟨S14x800x10240, .fp8e4m3⟩
  | .hbm, ⟨17, _⟩ => ⟨S14x6400, .bf16⟩
  | .hbm, ⟨18, _⟩ => ⟨S14x6400, .f32⟩
  | .local _ .vmem, ⟨0, _⟩ => ⟨S14x6400, .bf16⟩
  | .local _ .vmem, ⟨1, _⟩ => ⟨S5x14x160, .bf16⟩
  | .local _ .vmem, ⟨2, _⟩ => ⟨S5x14x160, .bf16⟩
  | .local _ .vmem, ⟨3, _⟩ => ⟨S5x14x160, .f32⟩
  | .local _ .vmem, ⟨4, _⟩ => ⟨S14x800x1280, .bf16⟩
  | .local _ .vmem, ⟨5, _⟩ => ⟨S14x800x1280, .fp8e4m3⟩
  | .local _ .vmem, ⟨6, _⟩ => ⟨S680x128, .f32⟩
  | .local _ .vmem, ⟨7, _⟩ => ⟨S680x128, .f32⟩
  | .local _ .vmem, ⟨8, _⟩ => ⟨S5x14x160, .f32⟩
  | .local _ .vmem, ⟨9, _⟩ => ⟨S5x14x160, .f32⟩
  | .local _ .vmem, ⟨10, _⟩ => ⟨S5x14x160, .f32⟩
  | .local _ .vmem, ⟨11, _⟩ => ⟨S680x128, .f32⟩
  | .local _ .vmem, ⟨12, _⟩ => ⟨S680x128, .f32⟩
  | .local _ .vmem, ⟨13, _⟩ => ⟨S680x128, .f32⟩
  | .local _ .vmem, ⟨14, _⟩ => ⟨S680x128, .f32⟩
  | .local _ .vmem, ⟨15, _⟩ => ⟨S14x6400, .bf16⟩
  | .local _ .vmem, ⟨16, _⟩ => ⟨S14x6400, .f32⟩
  | .local _ .smem, ⟨0, _⟩ => ⟨S14, .i32⟩
  | _, _ => ⟨S14x1x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_scratch1 : Ref sig .tc := ⟨.vmem, 0, rfl⟩
abbrev cc0_scratch2 : Ref sig .tc := ⟨.vmem, 1, rfl⟩
abbrev cc0_scratch3 : Ref sig .tc := ⟨.vmem, 2, rfl⟩
abbrev cc0_scratch4 : Ref sig .tc := ⟨.vmem, 3, rfl⟩
abbrev cc0_scratch5 : Ref sig .tc := ⟨.vmem, 4, rfl⟩
abbrev cc0_scratch6 : Ref sig .tc := ⟨.vmem, 5, rfl⟩
abbrev cc0_scratch7 : Ref sig .tc := ⟨.vmem, 6, rfl⟩
abbrev cc0_scratch8 : Ref sig .tc := ⟨.vmem, 7, rfl⟩
abbrev cc0_scratch9 : Ref sig .tc := ⟨.vmem, 8, rfl⟩
abbrev cc0_scratch10 : Ref sig .tc := ⟨.vmem, 9, rfl⟩
abbrev cc0_scratch11 : Ref sig .tc := ⟨.vmem, 10, rfl⟩
abbrev cc0_scratch12 : Ref sig .tc := ⟨.vmem, 11, rfl⟩
abbrev cc0_scratch13 : Ref sig .tc := ⟨.vmem, 12, rfl⟩
abbrev cc0_scratch14 : Ref sig .tc := ⟨.vmem, 13, rfl⟩
abbrev cc0_scratch15 : Ref sig .tc := ⟨.vmem, 14, rfl⟩
abbrev cc0_scratch16 : Ref sig .tc := ⟨.vmem, 15, rfl⟩
abbrev cc0_scratch17 : Ref sig .tc := ⟨.vmem, 16, rfl⟩
abbrev cc0_scratch0 : Ref sig .tc := ⟨.smem, 0, rfl⟩

abbrev nD : Nat := 1
abbrev τ : Topo := Topo.v7x

variable {F : FTy → Type} [FloatOps F]

abbrev grid0 : Pipeline.Grid := .none

@[reducible] def k0_t1_loop : Scf.Loop 32 :=
  let c0_i32_13 : BitVec 32 := 0#32
  let c14_i32 : BitVec 32 := 14#32
  let v16 : BitVec 32 := Scalar.addi c0_i32_13 c14_i32
  let c1_i32_14 : BitVec 32 := 1#32
  ⟨c0_i32_13, v16, c1_i32_14⟩
def k0_off1 (k0_t1 : Fin k0_t1_loop.trips) : Fin 1 → Nat :=
  let c0_i32_770 : BitVec 32 := 0#32
  let c0_i32_13 : BitVec 32 := 0#32
  let c1_i32_14 : BitVec 32 := 1#32
  let arg33 : BitVec 32 := Scf.iv c0_i32_13 c1_i32_14 k0_t1
  let c1_i32_769 : BitVec 32 := 1#32
  let v1048 : BitVec 32 := Scalar.muli arg33 c1_i32_769
  let v1049 : BitVec 32 := Scalar.addi c0_i32_770 v1048
  let v1050 : Index := Scalar.indexCast v1049
  ![v1050.toNat]
def k0_mult1 (v1051 : BitVec 32) : BitVec 32 :=
  let c1024_i32 : BitVec 32 := 1024#32
  let v1052 : BitVec 32 := Scalar.subi v1051 c1024_i32
  let c0_i32_771 : BitVec 32 := 0#32
  let v1053 : BitVec 32 := Scalar.maxsi v1052 c0_i32_771
  let c0_i32_772 : BitVec 32 := 0#32
  let v1055 : BitVec 1 := Scalar.cmpi .sgt v1053 c0_i32_772
  let v1056 : BitVec 32 := Scalar.extui v1055
  let c0_i32_773 : BitVec 32 := 0#32
  let v1057 : BitVec 1 := Scalar.cmpi .slt v1053 c0_i32_773
  let v1058 : BitVec 32 := Scalar.extui v1057
  let v1059 : BitVec 32 := Scalar.subi v1056 v1058
  let c128_i32 : BitVec 32 := 128#32
  let c0_i32_774 : BitVec 32 := 0#32
  let v1060 : BitVec 1 := Scalar.cmpi .sgt c128_i32 c0_i32_774
  let v1061 : BitVec 32 := Scalar.extui v1060
  let c0_i32_775 : BitVec 32 := 0#32
  let v1062 : BitVec 1 := Scalar.cmpi .slt c128_i32 c0_i32_775
  let v1063 : BitVec 32 := Scalar.extui v1062
  let v1064 : BitVec 32 := Scalar.subi v1061 v1063
  let v1065 : BitVec 1 := Scalar.cmpi .ne v1059 v1064
  let v1066 : BitVec 32 := Scalar.remsi v1053 c128_i32
  let c0_i32_776 : BitVec 32 := 0#32
  let v1067 : BitVec 1 := Scalar.cmpi .ne v1066 c0_i32_776
  let v1068 : BitVec 1 := Scalar.andi v1065 v1067
  let v1054 : BitVec 32 := Scalar.divsi v1053 c128_i32
  let c1_i32_777 : BitVec 32 := 1#32
  let v1069 : BitVec 32 := Scalar.subi v1054 c1_i32_777
  let v1070 : BitVec 32 := Scalar.select v1068 v1069 v1054
  let c71_i32 : BitVec 32 := 71#32
  let v1071 : BitVec 32 := Scalar.minsi v1070 c71_i32
  let c128_i32_778 : BitVec 32 := 128#32
  let v1072 : BitVec 32 := Scalar.muli v1071 c128_i32_778
  v1072

def k0_off2 (k0_t1 : Fin k0_t1_loop.trips) : Fin 1 → Nat :=
  let c0_i32_770 : BitVec 32 := 0#32
  let c0_i32_13 : BitVec 32 := 0#32
  let c1_i32_14 : BitVec 32 := 1#32
  let arg33 : BitVec 32 := Scf.iv c0_i32_13 c1_i32_14 k0_t1
  let c1_i32_769 : BitVec 32 := 1#32
  let v1048 : BitVec 32 := Scalar.muli arg33 c1_i32_769
  let v1049 : BitVec 32 := Scalar.addi c0_i32_770 v1048
  ![v1049.toNat]
def k0_off3 (k0_t1 : Fin k0_t1_loop.trips) : Fin 3 → Nat :=
  let c0_i32_770 : BitVec 32 := 0#32
  let c0_i32_13 : BitVec 32 := 0#32
  let c1_i32_14 : BitVec 32 := 1#32
  let arg33 : BitVec 32 := Scf.iv c0_i32_13 c1_i32_14 k0_t1
  let c1_i32_769 : BitVec 32 := 1#32
  let v1048 : BitVec 32 := Scalar.muli arg33 c1_i32_769
  let v1049 : BitVec 32 := Scalar.addi c0_i32_770 v1048
  let c0_i32_779 : BitVec 32 := 0#32
  let c0_i32_780 : BitVec 32 := 0#32
  ![v1049.toNat, 0, 0]
def k0_off4 (k0_t1 : Fin k0_t1_loop.trips) (v1051 : BitVec 32) : Fin 3 → Nat :=
  let c0_i32_770 : BitVec 32 := 0#32
  let c0_i32_13 : BitVec 32 := 0#32
  let c1_i32_14 : BitVec 32 := 1#32
  let arg33 : BitVec 32 := Scf.iv c0_i32_13 c1_i32_14 k0_t1
  let c1_i32_769 : BitVec 32 := 1#32
  let v1048 : BitVec 32 := Scalar.muli arg33 c1_i32_769
  let v1049 : BitVec 32 := Scalar.addi c0_i32_770 v1048
  let c0_i32_781 : BitVec 32 := 0#32
  let c1024_i32 : BitVec 32 := 1024#32
  let v1052 : BitVec 32 := Scalar.subi v1051 c1024_i32
  let c0_i32_771 : BitVec 32 := 0#32
  let v1053 : BitVec 32 := Scalar.maxsi v1052 c0_i32_771
  let c0_i32_772 : BitVec 32 := 0#32
  let v1055 : BitVec 1 := Scalar.cmpi .sgt v1053 c0_i32_772
  let v1056 : BitVec 32 := Scalar.extui v1055
  let c0_i32_773 : BitVec 32 := 0#32
  let v1057 : BitVec 1 := Scalar.cmpi .slt v1053 c0_i32_773
  let v1058 : BitVec 32 := Scalar.extui v1057
  let v1059 : BitVec 32 := Scalar.subi v1056 v1058
  let c128_i32 : BitVec 32 := 128#32
  let c0_i32_774 : BitVec 32 := 0#32
  let v1060 : BitVec 1 := Scalar.cmpi .sgt c128_i32 c0_i32_774
  let v1061 : BitVec 32 := Scalar.extui v1060
  let c0_i32_775 : BitVec 32 := 0#32
  let v1062 : BitVec 1 := Scalar.cmpi .slt c128_i32 c0_i32_775
  let v1063 : BitVec 32 := Scalar.extui v1062
  let v1064 : BitVec 32 := Scalar.subi v1061 v1063
  let v1065 : BitVec 1 := Scalar.cmpi .ne v1059 v1064
  let v1066 : BitVec 32 := Scalar.remsi v1053 c128_i32
  let c0_i32_776 : BitVec 32 := 0#32
  let v1067 : BitVec 1 := Scalar.cmpi .ne v1066 c0_i32_776
  let v1068 : BitVec 1 := Scalar.andi v1065 v1067
  let v1054 : BitVec 32 := Scalar.divsi v1053 c128_i32
  let c1_i32_777 : BitVec 32 := 1#32
  let v1069 : BitVec 32 := Scalar.subi v1054 c1_i32_777
  let v1070 : BitVec 32 := Scalar.select v1068 v1069 v1054
  let c71_i32 : BitVec 32 := 71#32
  let v1071 : BitVec 32 := Scalar.minsi v1070 c71_i32
  let c128_i32_778 : BitVec 32 := 128#32
  let v1072 : BitVec 32 := Scalar.muli v1071 c128_i32_778
  let v1073 : BitVec 32 := v1072
  ![v1049.toNat, 0, v1073.toNat]

def k0_chk1 (k0_t1 : Fin k0_t1_loop.trips) (v1051 : BitVec 32) : Prop :=
  (128 ∣ (k0_mult1 v1051).toNat) ∧
  (∀ a, (k0_off4 k0_t1 v1051) a + S1x800x1152.size a ≤ S14x800x10240.size a) ∧
  (∀ (hinb : ∀ a, (k0_off4 k0_t1 v1051) a + S1x800x1152.size a ≤ S14x800x10240.size a), (Rect.unit (s := S14x800x10240) (k0_off4 k0_t1 v1051) S1x800x1152.size hinb).WholeWords (EltTy.packing .bf16)) ∧
  (∀ (hinb : ∀ a, (k0_off4 k0_t1 v1051) a + S1x800x1152.size a ≤ S14x800x10240.size a), (Rect.unit (s := S14x800x10240) (k0_off4 k0_t1 v1051) S1x800x1152.size hinb).WholeWords (EltTy.packing .fp8e4m3))
theorem k0_mult1_dvd : ∀ (k0_t1 : Fin k0_t1_loop.trips) (v1051 : BitVec 32) (k0_hw1 : k0_chk1 k0_t1 v1051), 128 ∣ (k0_mult1 v1051).toNat := fun k0_t1 v1051 k0_hw1 => k0_hw1.1
theorem k0_off4_inb : ∀ (k0_t1 : Fin k0_t1_loop.trips) (v1051 : BitVec 32) (k0_hw1 : k0_chk1 k0_t1 v1051), ∀ a, (k0_off4 k0_t1 v1051) a + S1x800x1152.size a ≤ S14x800x10240.size a := fun k0_t1 v1051 k0_hw1 => k0_hw1.2.1
theorem k0_off4_wordsbf16 : ∀ (k0_t1 : Fin k0_t1_loop.trips) (v1051 : BitVec 32) (k0_hw1 : k0_chk1 k0_t1 v1051), (Rect.unit (s := S14x800x10240) (k0_off4 k0_t1 v1051) S1x800x1152.size (k0_off4_inb k0_t1 v1051 k0_hw1)).WholeWords (EltTy.packing .bf16) := fun k0_t1 v1051 k0_hw1 => k0_hw1.2.2.1 (k0_off4_inb k0_t1 v1051 k0_hw1)
theorem k0_off4_wordsfp8e4m3 : ∀ (k0_t1 : Fin k0_t1_loop.trips) (v1051 : BitVec 32) (k0_hw1 : k0_chk1 k0_t1 v1051), (Rect.unit (s := S14x800x10240) (k0_off4 k0_t1 v1051) S1x800x1152.size (k0_off4_inb k0_t1 v1051 k0_hw1)).WholeWords (EltTy.packing .fp8e4m3) := fun k0_t1 v1051 k0_hw1 => k0_hw1.2.2.2 (k0_off4_inb k0_t1 v1051 k0_hw1)

@[reducible] def k0_t2_loop : Scf.Loop 32 :=
  let c0_i32_281 : BitVec 32 := 0#32
  let c14_i32_282 : BitVec 32 := 14#32
  let v519 : BitVec 32 := Scalar.addi c0_i32_281 c14_i32_282
  let c1_i32_283 : BitVec 32 := 1#32
  ⟨c0_i32_281, v519, c1_i32_283⟩
def k0_off5 (k0_t2 : Fin k0_t2_loop.trips) : Fin 1 → Nat :=
  let c0_i32_770 : BitVec 32 := 0#32
  let c0_i32_281 : BitVec 32 := 0#32
  let c1_i32_283 : BitVec 32 := 1#32
  let arg33 : BitVec 32 := Scf.iv c0_i32_281 c1_i32_283 k0_t2
  let c1_i32_769 : BitVec 32 := 1#32
  let v1048 : BitVec 32 := Scalar.muli arg33 c1_i32_769
  let v1049 : BitVec 32 := Scalar.addi c0_i32_770 v1048
  let v1050 : Index := Scalar.indexCast v1049
  ![v1050.toNat]
def k0_mult2 (v1051 : BitVec 32) : BitVec 32 :=
  let c1024_i32 : BitVec 32 := 1024#32
  let v1052 : BitVec 32 := Scalar.subi v1051 c1024_i32
  let c0_i32_771 : BitVec 32 := 0#32
  let v1053 : BitVec 32 := Scalar.maxsi v1052 c0_i32_771
  let c0_i32_772 : BitVec 32 := 0#32
  let v1055 : BitVec 1 := Scalar.cmpi .sgt v1053 c0_i32_772
  let v1056 : BitVec 32 := Scalar.extui v1055
  let c0_i32_773 : BitVec 32 := 0#32
  let v1057 : BitVec 1 := Scalar.cmpi .slt v1053 c0_i32_773
  let v1058 : BitVec 32 := Scalar.extui v1057
  let v1059 : BitVec 32 := Scalar.subi v1056 v1058
  let c128_i32 : BitVec 32 := 128#32
  let c0_i32_774 : BitVec 32 := 0#32
  let v1060 : BitVec 1 := Scalar.cmpi .sgt c128_i32 c0_i32_774
  let v1061 : BitVec 32 := Scalar.extui v1060
  let c0_i32_775 : BitVec 32 := 0#32
  let v1062 : BitVec 1 := Scalar.cmpi .slt c128_i32 c0_i32_775
  let v1063 : BitVec 32 := Scalar.extui v1062
  let v1064 : BitVec 32 := Scalar.subi v1061 v1063
  let v1065 : BitVec 1 := Scalar.cmpi .ne v1059 v1064
  let v1066 : BitVec 32 := Scalar.remsi v1053 c128_i32
  let c0_i32_776 : BitVec 32 := 0#32
  let v1067 : BitVec 1 := Scalar.cmpi .ne v1066 c0_i32_776
  let v1068 : BitVec 1 := Scalar.andi v1065 v1067
  let v1054 : BitVec 32 := Scalar.divsi v1053 c128_i32
  let c1_i32_777 : BitVec 32 := 1#32
  let v1069 : BitVec 32 := Scalar.subi v1054 c1_i32_777
  let v1070 : BitVec 32 := Scalar.select v1068 v1069 v1054
  let c71_i32 : BitVec 32 := 71#32
  let v1071 : BitVec 32 := Scalar.minsi v1070 c71_i32
  let c128_i32_778 : BitVec 32 := 128#32
  let v1072 : BitVec 32 := Scalar.muli v1071 c128_i32_778
  v1072

def k0_off6 (k0_t2 : Fin k0_t2_loop.trips) : Fin 1 → Nat :=
  let c0_i32_770 : BitVec 32 := 0#32
  let c0_i32_281 : BitVec 32 := 0#32
  let c1_i32_283 : BitVec 32 := 1#32
  let arg33 : BitVec 32 := Scf.iv c0_i32_281 c1_i32_283 k0_t2
  let c1_i32_769 : BitVec 32 := 1#32
  let v1048 : BitVec 32 := Scalar.muli arg33 c1_i32_769
  let v1049 : BitVec 32 := Scalar.addi c0_i32_770 v1048
  ![v1049.toNat]
def k0_off7 (k0_t2 : Fin k0_t2_loop.trips) : Fin 3 → Nat :=
  let c0_i32_770 : BitVec 32 := 0#32
  let c0_i32_281 : BitVec 32 := 0#32
  let c1_i32_283 : BitVec 32 := 1#32
  let arg33 : BitVec 32 := Scf.iv c0_i32_281 c1_i32_283 k0_t2
  let c1_i32_769 : BitVec 32 := 1#32
  let v1048 : BitVec 32 := Scalar.muli arg33 c1_i32_769
  let v1049 : BitVec 32 := Scalar.addi c0_i32_770 v1048
  let c0_i32_779 : BitVec 32 := 0#32
  let c0_i32_780 : BitVec 32 := 0#32
  ![v1049.toNat, 0, 0]
def k0_off8 (k0_t2 : Fin k0_t2_loop.trips) (v1051 : BitVec 32) : Fin 3 → Nat :=
  let c0_i32_770 : BitVec 32 := 0#32
  let c0_i32_281 : BitVec 32 := 0#32
  let c1_i32_283 : BitVec 32 := 1#32
  let arg33 : BitVec 32 := Scf.iv c0_i32_281 c1_i32_283 k0_t2
  let c1_i32_769 : BitVec 32 := 1#32
  let v1048 : BitVec 32 := Scalar.muli arg33 c1_i32_769
  let v1049 : BitVec 32 := Scalar.addi c0_i32_770 v1048
  let c0_i32_781 : BitVec 32 := 0#32
  let c1024_i32 : BitVec 32 := 1024#32
  let v1052 : BitVec 32 := Scalar.subi v1051 c1024_i32
  let c0_i32_771 : BitVec 32 := 0#32
  let v1053 : BitVec 32 := Scalar.maxsi v1052 c0_i32_771
  let c0_i32_772 : BitVec 32 := 0#32
  let v1055 : BitVec 1 := Scalar.cmpi .sgt v1053 c0_i32_772
  let v1056 : BitVec 32 := Scalar.extui v1055
  let c0_i32_773 : BitVec 32 := 0#32
  let v1057 : BitVec 1 := Scalar.cmpi .slt v1053 c0_i32_773
  let v1058 : BitVec 32 := Scalar.extui v1057
  let v1059 : BitVec 32 := Scalar.subi v1056 v1058
  let c128_i32 : BitVec 32 := 128#32
  let c0_i32_774 : BitVec 32 := 0#32
  let v1060 : BitVec 1 := Scalar.cmpi .sgt c128_i32 c0_i32_774
  let v1061 : BitVec 32 := Scalar.extui v1060
  let c0_i32_775 : BitVec 32 := 0#32
  let v1062 : BitVec 1 := Scalar.cmpi .slt c128_i32 c0_i32_775
  let v1063 : BitVec 32 := Scalar.extui v1062
  let v1064 : BitVec 32 := Scalar.subi v1061 v1063
  let v1065 : BitVec 1 := Scalar.cmpi .ne v1059 v1064
  let v1066 : BitVec 32 := Scalar.remsi v1053 c128_i32
  let c0_i32_776 : BitVec 32 := 0#32
  let v1067 : BitVec 1 := Scalar.cmpi .ne v1066 c0_i32_776
  let v1068 : BitVec 1 := Scalar.andi v1065 v1067
  let v1054 : BitVec 32 := Scalar.divsi v1053 c128_i32
  let c1_i32_777 : BitVec 32 := 1#32
  let v1069 : BitVec 32 := Scalar.subi v1054 c1_i32_777
  let v1070 : BitVec 32 := Scalar.select v1068 v1069 v1054
  let c71_i32 : BitVec 32 := 71#32
  let v1071 : BitVec 32 := Scalar.minsi v1070 c71_i32
  let c128_i32_778 : BitVec 32 := 128#32
  let v1072 : BitVec 32 := Scalar.muli v1071 c128_i32_778
  let v1073 : BitVec 32 := v1072
  ![v1049.toNat, 0, v1073.toNat]
def k0_off9 (k0_t2 : Fin k0_t2_loop.trips) : Fin 1 → Nat :=
  let c0_i32_770 : BitVec 32 := 0#32
  let c0_i32_281 : BitVec 32 := 0#32
  let c1_i32_283 : BitVec 32 := 1#32
  let arg33 : BitVec 32 := Scf.iv c0_i32_281 c1_i32_283 k0_t2
  let c1_i32_769 : BitVec 32 := 1#32
  let v1048 : BitVec 32 := Scalar.muli arg33 c1_i32_769
  let v1049 : BitVec 32 := Scalar.addi c0_i32_770 v1048
  let v1080 : Index := Scalar.indexCast v1049
  ![v1080.toNat]
def k0_mult3 (v1085 : BitVec 32) : BitVec 32 :=
  let c1024_i32_783 : BitVec 32 := 1024#32
  let v1086 : BitVec 32 := Scalar.subi v1085 c1024_i32_783
  let c0_i32_784 : BitVec 32 := 0#32
  let v1087 : BitVec 32 := Scalar.maxsi v1086 c0_i32_784
  let c0_i32_786 : BitVec 32 := 0#32
  let v1089 : BitVec 1 := Scalar.cmpi .sgt v1087 c0_i32_786
  let v1090 : BitVec 32 := Scalar.extui v1089
  let c0_i32_787 : BitVec 32 := 0#32
  let v1091 : BitVec 1 := Scalar.cmpi .slt v1087 c0_i32_787
  let v1092 : BitVec 32 := Scalar.extui v1091
  let v1093 : BitVec 32 := Scalar.subi v1090 v1092
  let c128_i32_785 : BitVec 32 := 128#32
  let c0_i32_788 : BitVec 32 := 0#32
  let v1094 : BitVec 1 := Scalar.cmpi .sgt c128_i32_785 c0_i32_788
  let v1095 : BitVec 32 := Scalar.extui v1094
  let c0_i32_789 : BitVec 32 := 0#32
  let v1096 : BitVec 1 := Scalar.cmpi .slt c128_i32_785 c0_i32_789
  let v1097 : BitVec 32 := Scalar.extui v1096
  let v1098 : BitVec 32 := Scalar.subi v1095 v1097
  let v1099 : BitVec 1 := Scalar.cmpi .ne v1093 v1098
  let v1100 : BitVec 32 := Scalar.remsi v1087 c128_i32_785
  let c0_i32_790 : BitVec 32 := 0#32
  let v1101 : BitVec 1 := Scalar.cmpi .ne v1100 c0_i32_790
  let v1102 : BitVec 1 := Scalar.andi v1099 v1101
  let v1088 : BitVec 32 := Scalar.divsi v1087 c128_i32_785
  let c1_i32_791 : BitVec 32 := 1#32
  let v1103 : BitVec 32 := Scalar.subi v1088 c1_i32_791
  let v1104 : BitVec 32 := Scalar.select v1102 v1103 v1088
  let c71_i32_792 : BitVec 32 := 71#32
  let v1105 : BitVec 32 := Scalar.minsi v1104 c71_i32_792
  let c128_i32_793 : BitVec 32 := 128#32
  let v1106 : BitVec 32 := Scalar.muli v1105 c128_i32_793
  v1106

def k0_chk3 (v1085 : BitVec 32) : Prop :=
  (128 ∣ (k0_mult3 v1085).toNat)
theorem k0_mult3_dvd : ∀ (v1085 : BitVec 32) (k0_hw3 : k0_chk3 v1085), 128 ∣ (k0_mult3 v1085).toNat := fun v1085 k0_hw3 => k0_hw3

def k0_off10 (k0_t2 : Fin k0_t2_loop.trips) (c0_i32_800 : BitVec 32) : Fin 2 → Nat :=
  let c0_i32_770 : BitVec 32 := 0#32
  let c0_i32_281 : BitVec 32 := 0#32
  let c1_i32_283 : BitVec 32 := 1#32
  let arg33 : BitVec 32 := Scf.iv c0_i32_281 c1_i32_283 k0_t2
  let c1_i32_769 : BitVec 32 := 1#32
  let v1048 : BitVec 32 := Scalar.muli arg33 c1_i32_769
  let v1049 : BitVec 32 := Scalar.addi c0_i32_770 v1048
  let v1129 : BitVec 32 := Scalar.addi c0_i32_800 v1049
  let v1130 : Index := Scalar.indexCast v1129
  let c0_801 : Index := 0#32
  ![v1130.toNat, 0]
def k0_off11 (k0_t2 : Fin k0_t2_loop.trips) : Fin 3 → Nat :=
  let c0_803 : Index := 0#32
  let c0_i32_770 : BitVec 32 := 0#32
  let c0_i32_281 : BitVec 32 := 0#32
  let c1_i32_283 : BitVec 32 := 1#32
  let arg33 : BitVec 32 := Scf.iv c0_i32_281 c1_i32_283 k0_t2
  let c1_i32_769 : BitVec 32 := 1#32
  let v1048 : BitVec 32 := Scalar.muli arg33 c1_i32_769
  let v1049 : BitVec 32 := Scalar.addi c0_i32_770 v1048
  let v1136 : Index := Scalar.indexCast v1049
  let c0_804 : Index := 0#32
  ![0, v1136.toNat, 0]
def k0_off12 (k0_t2 : Fin k0_t2_loop.trips) : Fin 3 → Nat :=
  let c0_i32_770 : BitVec 32 := 0#32
  let c0_i32_281 : BitVec 32 := 0#32
  let c1_i32_283 : BitVec 32 := 1#32
  let arg33 : BitVec 32 := Scf.iv c0_i32_281 c1_i32_283 k0_t2
  let c1_i32_769 : BitVec 32 := 1#32
  let v1048 : BitVec 32 := Scalar.muli arg33 c1_i32_769
  let v1049 : BitVec 32 := Scalar.addi c0_i32_770 v1048
  let v1146 : Index := Scalar.indexCast v1049
  let c0_806 : Index := 0#32
  let c0_807 : Index := 0#32
  ![v1146.toNat, 0, 0]
def k0_off13 (k0_t2 : Fin k0_t2_loop.trips) : Fin 3 → Nat :=
  let c1_817 : Index := 1#32
  let c0_i32_770 : BitVec 32 := 0#32
  let c0_i32_281 : BitVec 32 := 0#32
  let c1_i32_283 : BitVec 32 := 1#32
  let arg33 : BitVec 32 := Scf.iv c0_i32_281 c1_i32_283 k0_t2
  let c1_i32_769 : BitVec 32 := 1#32
  let v1048 : BitVec 32 := Scalar.muli arg33 c1_i32_769
  let v1049 : BitVec 32 := Scalar.addi c0_i32_770 v1048
  let v1177 : Index := Scalar.indexCast v1049
  let c0_818 : Index := 0#32
  ![1, v1177.toNat, 0]
def k0_off14 (k0_t2 : Fin k0_t2_loop.trips) : Fin 3 → Nat :=
  let c0_i32_770 : BitVec 32 := 0#32
  let c0_i32_281 : BitVec 32 := 0#32
  let c1_i32_283 : BitVec 32 := 1#32
  let arg33 : BitVec 32 := Scf.iv c0_i32_281 c1_i32_283 k0_t2
  let c1_i32_769 : BitVec 32 := 1#32
  let v1048 : BitVec 32 := Scalar.muli arg33 c1_i32_769
  let v1049 : BitVec 32 := Scalar.addi c0_i32_770 v1048
  let v1187 : Index := Scalar.indexCast v1049
  let c160_821 : Index := 160#32
  let c0_822 : Index := 0#32
  ![v1187.toNat, 160, 0]
def k0_off15 (k0_t2 : Fin k0_t2_loop.trips) : Fin 3 → Nat :=
  let c2_832 : Index := 2#32
  let c0_i32_770 : BitVec 32 := 0#32
  let c0_i32_281 : BitVec 32 := 0#32
  let c1_i32_283 : BitVec 32 := 1#32
  let arg33 : BitVec 32 := Scf.iv c0_i32_281 c1_i32_283 k0_t2
  let c1_i32_769 : BitVec 32 := 1#32
  let v1048 : BitVec 32 := Scalar.muli arg33 c1_i32_769
  let v1049 : BitVec 32 := Scalar.addi c0_i32_770 v1048
  let v1218 : Index := Scalar.indexCast v1049
  let c0_833 : Index := 0#32
  ![2, v1218.toNat, 0]
def k0_off16 (k0_t2 : Fin k0_t2_loop.trips) : Fin 3 → Nat :=
  let c0_i32_770 : BitVec 32 := 0#32
  let c0_i32_281 : BitVec 32 := 0#32
  let c1_i32_283 : BitVec 32 := 1#32
  let arg33 : BitVec 32 := Scf.iv c0_i32_281 c1_i32_283 k0_t2
  let c1_i32_769 : BitVec 32 := 1#32
  let v1048 : BitVec 32 := Scalar.muli arg33 c1_i32_769
  let v1049 : BitVec 32 := Scalar.addi c0_i32_770 v1048
  let v1228 : Index := Scalar.indexCast v1049
  let c320_836 : Index := 320#32
  let c0_837 : Index := 0#32
  ![v1228.toNat, 320, 0]
def k0_off17 (k0_t2 : Fin k0_t2_loop.trips) : Fin 3 → Nat :=
  let c3_847 : Index := 3#32
  let c0_i32_770 : BitVec 32 := 0#32
  let c0_i32_281 : BitVec 32 := 0#32
  let c1_i32_283 : BitVec 32 := 1#32
  let arg33 : BitVec 32 := Scf.iv c0_i32_281 c1_i32_283 k0_t2
  let c1_i32_769 : BitVec 32 := 1#32
  let v1048 : BitVec 32 := Scalar.muli arg33 c1_i32_769
  let v1049 : BitVec 32 := Scalar.addi c0_i32_770 v1048
  let v1259 : Index := Scalar.indexCast v1049
  let c0_848 : Index := 0#32
  ![3, v1259.toNat, 0]
def k0_off18 (k0_t2 : Fin k0_t2_loop.trips) : Fin 3 → Nat :=
  let c0_i32_770 : BitVec 32 := 0#32
  let c0_i32_281 : BitVec 32 := 0#32
  let c1_i32_283 : BitVec 32 := 1#32
  let arg33 : BitVec 32 := Scf.iv c0_i32_281 c1_i32_283 k0_t2
  let c1_i32_769 : BitVec 32 := 1#32
  let v1048 : BitVec 32 := Scalar.muli arg33 c1_i32_769
  let v1049 : BitVec 32 := Scalar.addi c0_i32_770 v1048
  let v1269 : Index := Scalar.indexCast v1049
  let c480_851 : Index := 480#32
  let c0_852 : Index := 0#32
  ![v1269.toNat, 480, 0]
def k0_off19 (k0_t2 : Fin k0_t2_loop.trips) : Fin 3 → Nat :=
  let c4_862 : Index := 4#32
  let c0_i32_770 : BitVec 32 := 0#32
  let c0_i32_281 : BitVec 32 := 0#32
  let c1_i32_283 : BitVec 32 := 1#32
  let arg33 : BitVec 32 := Scf.iv c0_i32_281 c1_i32_283 k0_t2
  let c1_i32_769 : BitVec 32 := 1#32
  let v1048 : BitVec 32 := Scalar.muli arg33 c1_i32_769
  let v1049 : BitVec 32 := Scalar.addi c0_i32_770 v1048
  let v1300 : Index := Scalar.indexCast v1049
  let c0_863 : Index := 0#32
  ![4, v1300.toNat, 0]
def k0_off20 (k0_t2 : Fin k0_t2_loop.trips) : Fin 3 → Nat :=
  let c0_i32_770 : BitVec 32 := 0#32
  let c0_i32_281 : BitVec 32 := 0#32
  let c1_i32_283 : BitVec 32 := 1#32
  let arg33 : BitVec 32 := Scf.iv c0_i32_281 c1_i32_283 k0_t2
  let c1_i32_769 : BitVec 32 := 1#32
  let v1048 : BitVec 32 := Scalar.muli arg33 c1_i32_769
  let v1049 : BitVec 32 := Scalar.addi c0_i32_770 v1048
  let v1310 : Index := Scalar.indexCast v1049
  let c640_866 : Index := 640#32
  let c0_867 : Index := 0#32
  ![v1310.toNat, 640, 0]
def k0_off21 (k0_t2 : Fin k0_t2_loop.trips) : Fin 1 → Nat :=
  let c0_i32_770 : BitVec 32 := 0#32
  let c0_i32_281 : BitVec 32 := 0#32
  let c1_i32_283 : BitVec 32 := 1#32
  let arg33 : BitVec 32 := Scf.iv c0_i32_281 c1_i32_283 k0_t2
  let c1_i32_769 : BitVec 32 := 1#32
  let v1048 : BitVec 32 := Scalar.muli arg33 c1_i32_769
  let v1049 : BitVec 32 := Scalar.addi c0_i32_770 v1048
  ![v1049.toNat]
def k0_off22 (k0_t2 : Fin k0_t2_loop.trips) : Fin 3 → Nat :=
  let c0_i32_770 : BitVec 32 := 0#32
  let c0_i32_281 : BitVec 32 := 0#32
  let c1_i32_283 : BitVec 32 := 1#32
  let arg33 : BitVec 32 := Scf.iv c0_i32_281 c1_i32_283 k0_t2
  let c1_i32_769 : BitVec 32 := 1#32
  let v1048 : BitVec 32 := Scalar.muli arg33 c1_i32_769
  let v1049 : BitVec 32 := Scalar.addi c0_i32_770 v1048
  let c0_i32_875 : BitVec 32 := 0#32
  let c0_i32_876 : BitVec 32 := 0#32
  ![v1049.toNat, 0, 0]
def k0_off23 (k0_t2 : Fin k0_t2_loop.trips) (v1051 : BitVec 32) : Fin 3 → Nat :=
  let c0_i32_770 : BitVec 32 := 0#32
  let c0_i32_281 : BitVec 32 := 0#32
  let c1_i32_283 : BitVec 32 := 1#32
  let arg33 : BitVec 32 := Scf.iv c0_i32_281 c1_i32_283 k0_t2
  let c1_i32_769 : BitVec 32 := 1#32
  let v1048 : BitVec 32 := Scalar.muli arg33 c1_i32_769
  let v1049 : BitVec 32 := Scalar.addi c0_i32_770 v1048
  let c0_i32_877 : BitVec 32 := 0#32
  let c1024_i32 : BitVec 32 := 1024#32
  let v1052 : BitVec 32 := Scalar.subi v1051 c1024_i32
  let c0_i32_771 : BitVec 32 := 0#32
  let v1053 : BitVec 32 := Scalar.maxsi v1052 c0_i32_771
  let c0_i32_772 : BitVec 32 := 0#32
  let v1055 : BitVec 1 := Scalar.cmpi .sgt v1053 c0_i32_772
  let v1056 : BitVec 32 := Scalar.extui v1055
  let c0_i32_773 : BitVec 32 := 0#32
  let v1057 : BitVec 1 := Scalar.cmpi .slt v1053 c0_i32_773
  let v1058 : BitVec 32 := Scalar.extui v1057
  let v1059 : BitVec 32 := Scalar.subi v1056 v1058
  let c128_i32 : BitVec 32 := 128#32
  let c0_i32_774 : BitVec 32 := 0#32
  let v1060 : BitVec 1 := Scalar.cmpi .sgt c128_i32 c0_i32_774
  let v1061 : BitVec 32 := Scalar.extui v1060
  let c0_i32_775 : BitVec 32 := 0#32
  let v1062 : BitVec 1 := Scalar.cmpi .slt c128_i32 c0_i32_775
  let v1063 : BitVec 32 := Scalar.extui v1062
  let v1064 : BitVec 32 := Scalar.subi v1061 v1063
  let v1065 : BitVec 1 := Scalar.cmpi .ne v1059 v1064
  let v1066 : BitVec 32 := Scalar.remsi v1053 c128_i32
  let c0_i32_776 : BitVec 32 := 0#32
  let v1067 : BitVec 1 := Scalar.cmpi .ne v1066 c0_i32_776
  let v1068 : BitVec 1 := Scalar.andi v1065 v1067
  let v1054 : BitVec 32 := Scalar.divsi v1053 c128_i32
  let c1_i32_777 : BitVec 32 := 1#32
  let v1069 : BitVec 32 := Scalar.subi v1054 c1_i32_777
  let v1070 : BitVec 32 := Scalar.select v1068 v1069 v1054
  let c71_i32 : BitVec 32 := 71#32
  let v1071 : BitVec 32 := Scalar.minsi v1070 c71_i32
  let c128_i32_778 : BitVec 32 := 128#32
  let v1072 : BitVec 32 := Scalar.muli v1071 c128_i32_778
  let v1073 : BitVec 32 := v1072
  ![v1049.toNat, 0, v1073.toNat]

def k0_chk2 (k0_t2 : Fin k0_t2_loop.trips) (v1051 : BitVec 32) : Prop :=
  (128 ∣ (k0_mult2 v1051).toNat) ∧
  (∀ a, (k0_off8 k0_t2 v1051) a + S1x800x1152.size a ≤ S14x800x10240.size a) ∧
  (∀ (hinb : ∀ a, (k0_off8 k0_t2 v1051) a + S1x800x1152.size a ≤ S14x800x10240.size a), (Rect.unit (s := S14x800x10240) (k0_off8 k0_t2 v1051) S1x800x1152.size hinb).WholeWords (EltTy.packing .bf16)) ∧
  (∀ a, (k0_off23 k0_t2 v1051) a + S1x800x1152.size a ≤ S14x800x10240.size a) ∧
  (∀ (hinb : ∀ a, (k0_off23 k0_t2 v1051) a + S1x800x1152.size a ≤ S14x800x10240.size a), (Rect.unit (s := S14x800x10240) (k0_off23 k0_t2 v1051) S1x800x1152.size hinb).WholeWords (EltTy.packing .fp8e4m3))
theorem k0_mult2_dvd : ∀ (k0_t2 : Fin k0_t2_loop.trips) (v1051 : BitVec 32) (k0_hw2 : k0_chk2 k0_t2 v1051), 128 ∣ (k0_mult2 v1051).toNat := fun k0_t2 v1051 k0_hw2 => k0_hw2.1
theorem k0_off8_inb : ∀ (k0_t2 : Fin k0_t2_loop.trips) (v1051 : BitVec 32) (k0_hw2 : k0_chk2 k0_t2 v1051), ∀ a, (k0_off8 k0_t2 v1051) a + S1x800x1152.size a ≤ S14x800x10240.size a := fun k0_t2 v1051 k0_hw2 => k0_hw2.2.1
theorem k0_off8_wordsbf16 : ∀ (k0_t2 : Fin k0_t2_loop.trips) (v1051 : BitVec 32) (k0_hw2 : k0_chk2 k0_t2 v1051), (Rect.unit (s := S14x800x10240) (k0_off8 k0_t2 v1051) S1x800x1152.size (k0_off8_inb k0_t2 v1051 k0_hw2)).WholeWords (EltTy.packing .bf16) := fun k0_t2 v1051 k0_hw2 => k0_hw2.2.2.1 (k0_off8_inb k0_t2 v1051 k0_hw2)
theorem k0_off23_inb : ∀ (k0_t2 : Fin k0_t2_loop.trips) (v1051 : BitVec 32) (k0_hw2 : k0_chk2 k0_t2 v1051), ∀ a, (k0_off23 k0_t2 v1051) a + S1x800x1152.size a ≤ S14x800x10240.size a := fun k0_t2 v1051 k0_hw2 => k0_hw2.2.2.2.1
theorem k0_off23_wordsfp8e4m3 : ∀ (k0_t2 : Fin k0_t2_loop.trips) (v1051 : BitVec 32) (k0_hw2 : k0_chk2 k0_t2 v1051), (Rect.unit (s := S14x800x10240) (k0_off23 k0_t2 v1051) S1x800x1152.size (k0_off23_inb k0_t2 v1051 k0_hw2)).WholeWords (EltTy.packing .fp8e4m3) := fun k0_t2 v1051 k0_hw2 => k0_hw2.2.2.2.2 (k0_off23_inb k0_t2 v1051 k0_hw2)
-- ==== ReferenceIdeal.lean ====
abbrev S14x1x6400 : Shape := ⟨3, ![14, 1, 6400]⟩
abbrev S14x1x5x160 : Shape := ⟨4, ![14, 1, 5, 160]⟩
abbrev S14x10240x5x160 : Shape := ⟨4, ![14, 10240, 5, 160]⟩
abbrev S14x5x160 : Shape := ⟨3, ![14, 5, 160]⟩
abbrev S14 : Shape := ⟨1, ![14]⟩
abbrev S14x1x5x8x160 : Shape := ⟨5, ![14, 1, 5, 8, 160]⟩
abbrev S14x5x10240x1x8 : Shape := ⟨5, ![14, 5, 10240, 1, 8]⟩
abbrev S14x1x5x8x10240 : Shape := ⟨5, ![14, 1, 5, 8, 10240]⟩
abbrev S_ : Shape := ⟨0, ![]⟩
abbrev S10240 : Shape := ⟨1, ![10240]⟩
abbrev S1x10240 : Shape := ⟨2, ![1, 10240]⟩
abbrev S14x1 : Shape := ⟨2, ![14, 1]⟩
abbrev S14x10240 : Shape := ⟨2, ![14, 10240]⟩
abbrev S14x1x1x1x10240 : Shape := ⟨5, ![14, 1, 1, 1, 10240]⟩
abbrev S14x1x5x8 : Shape := ⟨4, ![14, 1, 5, 8]⟩
abbrev S14x1x5x8x1 : Shape := ⟨5, ![14, 1, 5, 8, 1]⟩
abbrev S70x8x10240 : Shape := ⟨3, ![70, 8, 10240]⟩
abbrev S14x5x160x10240 : Shape := ⟨4, ![14, 5, 160, 10240]⟩
abbrev S70x160x10240 : Shape := ⟨3, ![70, 160, 10240]⟩
abbrev S70x1x160 : Shape := ⟨3, ![70, 1, 160]⟩
abbrev S70x8x1 : Shape := ⟨3, ![70, 8, 1]⟩
abbrev S70x8x160 : Shape := ⟨3, ![70, 8, 160]⟩
abbrev S14x6400 : Shape := ⟨2, ![14, 6400]⟩

abbrev nBuf : Space → Nat
  | .hbm => 64
  | .vmem => 8
  | .smem => 0
  | _ => 0

abbrev bufTy : (tb : Table) → Fin (tcTables nBuf tb) → BufTy
  | .hbm, ⟨0, _⟩ => ⟨S14x1x6400, .bf16⟩
  | .hbm, ⟨1, _⟩ => ⟨S14x1x5x160, .bf16⟩
  | .hbm, ⟨2, _⟩ => ⟨S14x1x5x160, .bf16⟩
  | .hbm, ⟨3, _⟩ => ⟨S14x10240x5x160, .bf16⟩
  | .hbm, ⟨4, _⟩ => ⟨S14x10240x5x160, .fp8e4m3⟩
  | .hbm, ⟨5, _⟩ => ⟨S14x5x160, .f32⟩
  | .hbm, ⟨6, _⟩ => ⟨S14, .i32⟩
  | .hbm, ⟨7, _⟩ => ⟨S14x1x5x8x160, .bf16⟩
  | .hbm, ⟨8, _⟩ => ⟨S14x5x10240x1x8, .f32⟩
  | .hbm, ⟨9, _⟩ => ⟨S14x1x5x8x10240, .f32⟩
  | .hbm, ⟨10, _⟩ => ⟨S_, .f32⟩
  | .hbm, ⟨11, _⟩ => ⟨S14x1x5x8x10240, .f32⟩
  | .hbm, ⟨12, _⟩ => ⟨S14x1x5x8x10240, .f32⟩
  | .hbm, ⟨13, _⟩ => ⟨S10240, .i32⟩
  | .hbm, ⟨14, _⟩ => ⟨S1x10240, .i32⟩
  | .hbm, ⟨15, _⟩ => ⟨S14x1, .i32⟩
  | .hbm, ⟨16, _⟩ => ⟨S14x10240, .i32⟩
  | .hbm, ⟨17, _⟩ => ⟨S14x10240, .i32⟩
  | .hbm, ⟨18, _⟩ => ⟨S14x10240, .i1⟩
  | .hbm, ⟨19, _⟩ => ⟨S_, .i32⟩
  | .hbm, ⟨20, _⟩ => ⟨S1x10240, .i32⟩
  | .hbm, ⟨21, _⟩ => ⟨S1x10240, .i1⟩
  | .hbm, ⟨22, _⟩ => ⟨S_, .i32⟩
  | .hbm, ⟨23, _⟩ => ⟨S14x1, .i32⟩
  | .hbm, ⟨24, _⟩ => ⟨S14x1, .i32⟩
  | .hbm, ⟨25, _⟩ => ⟨S14x10240, .i32⟩
  | .hbm, ⟨26, _⟩ => ⟨S14x10240, .i32⟩
  | .hbm, ⟨27, _⟩ => ⟨S14x10240, .i1⟩
  | .hbm, ⟨28, _⟩ => ⟨S14x10240, .i1⟩
  | .hbm, ⟨29, _⟩ => ⟨S14x10240, .i1⟩
  | .hbm, ⟨30, _⟩ => ⟨S14x10240, .i1⟩
  | .hbm, ⟨31, _⟩ => ⟨S14x1x1x1x10240, .i1⟩
  | .hbm, ⟨32, _⟩ => ⟨S_, .f32⟩
  | .hbm, ⟨33, _⟩ => ⟨S_, .f32⟩
  | .hbm, ⟨34, _⟩ => ⟨S14x1x5x8x10240, .i1⟩
  | .hbm, ⟨35, _⟩ => ⟨S14x1x5x8x10240, .f32⟩
  | .hbm, ⟨36, _⟩ => ⟨S14x1x5x8x10240, .f32⟩
  | .hbm, ⟨37, _⟩ => ⟨S14x1x5x8, .f32⟩
  | .hbm, ⟨38, _⟩ => ⟨S_, .f32⟩
  | .hbm, ⟨39, _⟩ => ⟨S14x1x5x8, .f32⟩
  | .hbm, ⟨40, _⟩ => ⟨S14x1x5x8, .f32⟩
  | .hbm, ⟨41, _⟩ => ⟨S_, .f32⟩
  | .hbm, ⟨42, _⟩ => ⟨S14x1x5x8, .f32⟩
  | .hbm, ⟨43, _⟩ => ⟨S14x1x5x8, .f32⟩
  | .hbm, ⟨44, _⟩ => ⟨S14x1x5x8x1, .f32⟩
  | .hbm, ⟨45, _⟩ => ⟨S14x1x5x8x10240, .f32⟩
  | .hbm, ⟨46, _⟩ => ⟨S14x1x5x8x10240, .f32⟩
  | .hbm, ⟨47, _⟩ => ⟨S14x1x5x8x10240, .f32⟩
  | .hbm, ⟨48, _⟩ => ⟨S14x1x5x8, .f32⟩
  | .hbm, ⟨49, _⟩ => ⟨S14x1x5x8, .f32⟩
  | .hbm, ⟨50, _⟩ => ⟨S_, .f32⟩
  | .hbm, ⟨51, _⟩ => ⟨S14x1x5x8, .f32⟩
  | .hbm, ⟨52, _⟩ => ⟨S14x1x5x8, .f32⟩
  | .hbm, ⟨53, _⟩ => ⟨S70x8x10240, .f32⟩
  | .hbm, ⟨54, _⟩ => ⟨S14x5x160x10240, .fp8e4m3⟩
  | .hbm, ⟨55, _⟩ => ⟨S70x160x10240, .fp8e4m3⟩
  | .hbm, ⟨56, _⟩ => ⟨S70x1x160, .f32⟩
  | .hbm, ⟨57, _⟩ => ⟨S70x1x160, .bf16⟩
  | .hbm, ⟨58, _⟩ => ⟨S70x8x1, .f32⟩
  | .hbm, ⟨59, _⟩ => ⟨S70x8x1, .f32⟩
  | .hbm, ⟨60, _⟩ => ⟨S70x8x160, .bf16⟩
  | .hbm, ⟨61, _⟩ => ⟨S70x8x160, .f32⟩
  | .hbm, ⟨62, _⟩ => ⟨S14x6400, .bf16⟩
  | .hbm, ⟨63, _⟩ => ⟨S14x6400, .f32⟩
  | .local _ .vmem, ⟨0, _⟩ => ⟨S70x8x10240, .f32⟩
  | .local _ .vmem, ⟨1, _⟩ => ⟨S70x160x10240, .fp8e4m3⟩
  | .local _ .vmem, ⟨2, _⟩ => ⟨S70x1x160, .f32⟩
  | .local _ .vmem, ⟨3, _⟩ => ⟨S70x1x160, .bf16⟩
  | .local _ .vmem, ⟨4, _⟩ => ⟨S70x8x1, .f32⟩
  | .local _ .vmem, ⟨5, _⟩ => ⟨S70x8x1, .f32⟩
  | .local _ .vmem, ⟨6, _⟩ => ⟨S70x8x160, .bf16⟩
  | .local _ .vmem, ⟨7, _⟩ => ⟨S70x8x160, .f32⟩
  | _, _ => ⟨S14x1x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43_0 : Ref sig .tc := ⟨.hbm, 60, rfl⟩
abbrev main_v43_1 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S70x8x10240 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S70x160x10240 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S70x1x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S70x1x160 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S70x8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S70x8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S70x8x160 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S70x8x160 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Words.lean ====
/- The words the kernel computes from a batch row's number and its cache length: where each window starts, and that
   every start is a multiple of 128 inside the cache, whatever the length is. -/
module

public import proofs.«01_k».proof.Proof.Gen.KernelIdeal
public import Idealize.ShloMosaic.Lib.Affine
public import Idealize.ShloMosaic.Lib.WordCmp

@[expose] public section

namespace Cert.Proof.KernelIdeal

open Cert.KernelIdeal
open Idealize.ShloMosaic

/-- The first position of the window of a row whose cache length is the word `w`: `w - 1024` (as a wrapping word,
    read signed), at least 0, rounded down to a multiple of 128, at most 9088. -/
def start (w : BitVec 32) : ℕ := min ((w - 1024#32).toInt.toNat / 128) 71 * 128

theorem start_le (w : BitVec 32) : start w + 1152 ≤ 10240 := by unfold start; omega
theorem start_dvd (w : BitVec 32) : 128 ∣ start w := ⟨_, Nat.mul_comm _ _⟩

theorem andi_fails_left {a b : BitVec 1} (h : ¬a = 1#1) : ¬Scalar.andi a b = 1#1 := by
  revert a b; decide
theorem andi_fails_right {a b : BitVec 1} (h : ¬b = 1#1) : ¬Scalar.andi a b = 1#1 := by
  revert a b; decide

/-- The kernel's computation of the window's start gives `start`. -/
theorem mult1_toNat (w : BitVec 32) : (k0_mult1 w).toNat = start w := by
  have hw := Affine.word_range (Scalar.subi w 1024#32)
  have h0 : Affine.IsInt (0#32) 0 := Affine.ofNat 0 (by omega)
  have h1 : Affine.IsInt (1#32) 1 := Affine.ofNat 1 (by omega)
  have h128 : Affine.IsInt (128#32) 128 := Affine.ofNat 128 (by omega)
  have h71 : Affine.IsInt (71#32) 71 := Affine.ofNat 71 (by omega)
  have hu := Affine.maxsi (Affine.word (Scalar.subi w 1024#32)) h0 rfl
  generalize hn : max (Scalar.subi w 1024#32).toInt 0 = n at hu
  have hn0 : 0 ≤ n := by omega
  have hd := Affine.divsi hu h128 ⟨rfl, hn0, by omega⟩
  have hm : Affine.IsInt (k0_mult1 w) (min (n / 128) 71 * 128) := by
    by_cases hp : 0 < n
    · exact Affine.muli (Affine.minsi (Affine.select_fails
        (andi_fails_left
          (Affine.ne_fails
            (Affine.subi (Affine.extui_holds (Affine.sgt_holds hu h0 (by omega)) rfl)
              (Affine.extui_fails (Affine.slt_fails hu h0 (by omega)) rfl) ⟨rfl, by omega, by omega⟩)
            (Affine.subi (Affine.extui_holds (Affine.sgt_holds h128 h0 (by omega)) rfl)
              (Affine.extui_fails (Affine.slt_fails h128 h0 (by omega)) rfl) ⟨rfl, by omega, by omega⟩) (by omega)))
        (Affine.subi hd h1 ⟨rfl, by omega, by omega⟩) hd rfl) h71 rfl) h128 ⟨rfl, by omega, by omega⟩
    · exact Affine.muli (Affine.minsi (Affine.select_fails
        (andi_fails_right
          (Affine.ne_fails (Affine.remsi hu h128 ⟨rfl, hn0, by omega⟩) h0 (by omega)))
        (Affine.subi hd h1 ⟨rfl, by omega, by omega⟩) hd rfl) h71 rfl) h128 ⟨rfl, by omega, by omega⟩
  unfold Affine.IsInt at hm
  have e : (k0_mult1 w).toNat = (k0_mult1 w).toInt.toNat := by
    rw [BitVec.toInt_eq_toNat_cond] at hm ⊢
    have := (k0_mult1 w).isLt
    split at hm <;> simp_all <;> omega
  rw [e, hm, start, ← hn]
  show _ = min ((Scalar.subi w 1024#32).toInt.toNat / 128) 71 * 128
  omega

/-- The other two computations of the start are the same one. -/
theorem mult2_toNat (w : BitVec 32) : (k0_mult2 w).toNat = start w := mult1_toNat w
theorem mult3_toNat (w : BitVec 32) : (k0_mult3 w).toNat = start w := mult1_toNat w

/-! ## Offsets -/

theorem off1_eq (k : Fin k0_t1_loop.trips) : k0_off1 k = ![k.val] := by revert k; decide +kernel
theorem off2_eq (k : Fin k0_t1_loop.trips) : k0_off2 k = ![k.val] := by revert k; decide +kernel
theorem off3_eq (k : Fin k0_t1_loop.trips) : k0_off3 k = ![k.val, 0, 0] := by revert k; decide +kernel
theorem off4_eq (k : Fin k0_t1_loop.trips) (w : BitVec 32) : k0_off4 k w = ![k.val, 0, start w] := by
  have h : k0_off4 k w = ![k0_off3 k 0, 0, (k0_mult1 w).toNat] := rfl
  rw [h, off3_eq, mult1_toNat]; rfl
theorem off5_eq (k : Fin k0_t2_loop.trips) : k0_off5 k = ![k.val] := by revert k; decide +kernel
theorem off6_eq (k : Fin k0_t2_loop.trips) : k0_off6 k = ![k.val] := by revert k; decide +kernel
theorem off7_eq (k : Fin k0_t2_loop.trips) : k0_off7 k = ![k.val, 0, 0] := by revert k; decide +kernel
theorem off8_eq (k : Fin k0_t2_loop.trips) (w : BitVec 32) : k0_off8 k w = ![k.val, 0, start w] := by
  have h : k0_off8 k w = ![k0_off7 k 0, 0, (k0_mult2 w).toNat] := rfl
  rw [h, off7_eq, mult2_toNat]; rfl
theorem off9_eq (k : Fin k0_t2_loop.trips) : k0_off9 k = ![k.val] := by revert k; decide +kernel
theorem off10_eq (k : Fin k0_t2_loop.trips) (g : Fin 5) : k0_off10 k (BitVec.ofNat 32 (136 * g.val)) = ![136 * g.val + k.val, 0] := by
  revert k g; decide +kernel
theorem off11_eq (k : Fin k0_t2_loop.trips) : k0_off11 k = ![0, k.val, 0] := by revert k; decide +kernel
theorem off12_eq (k : Fin k0_t2_loop.trips) : k0_off12 k = ![k.val, 0, 0] := by revert k; decide +kernel
theorem off13_eq (k : Fin k0_t2_loop.trips) : k0_off13 k = ![1, k.val, 0] := by revert k; decide +kernel
theorem off14_eq (k : Fin k0_t2_loop.trips) : k0_off14 k = ![k.val, 160, 0] := by revert k; decide +kernel
theorem off15_eq (k : Fin k0_t2_loop.trips) : k0_off15 k = ![2, k.val, 0] := by revert k; decide +kernel
theorem off16_eq (k : Fin k0_t2_loop.trips) : k0_off16 k = ![k.val, 320, 0] := by revert k; decide +kernel
theorem off17_eq (k : Fin k0_t2_loop.trips) : k0_off17 k = ![3, k.val, 0] := by revert k; decide +kernel
theorem off18_eq (k : Fin k0_t2_loop.trips) : k0_off18 k = ![k.val, 480, 0] := by revert k; decide +kernel
theorem off19_eq (k : Fin k0_t2_loop.trips) : k0_off19 k = ![4, k.val, 0] := by revert k; decide +kernel
theorem off20_eq (k : Fin k0_t2_loop.trips) : k0_off20 k = ![k.val, 640, 0] := by revert k; decide +kernel
theorem off21_eq (k : Fin k0_t2_loop.trips) : k0_off21 k = ![k.val] := by revert k; decide +kernel
theorem off22_eq (k : Fin k0_t2_loop.trips) : k0_off22 k = ![k.val, 0, 0] := by revert k; decide +kernel
theorem off23_eq (k : Fin k0_t2_loop.trips) (w : BitVec 32) : k0_off23 k w = ![k.val, 0, start w] := off8_eq k w

theorem trips1 : k0_t1_loop.trips = 14 := by decide +kernel
theorem trips2 : k0_t2_loop.trips = 14 := by decide +kernel

/-- The window of row `k` lies in the cache. -/
theorem inb_window (k : ℕ) (hk : k < 14) (w : BitVec 32) (off : Fin 3 → ℕ) (h : off = ![k, 0, start w]) :
    ∀ a, off a + S1x800x1152.size a ≤ S14x800x10240.size a := by
  subst h
  have := start_le w
  intro a
  match a with
  | 0 => exact hk
  | 1 => show 0 + 800 ≤ 800; omega
  | 2 => exact this

/-- The window moves whole words: it takes every row of the cache's second axis. -/
theorem words_window (k : ℕ) (w : BitVec 32) (p : ℕ) (off : Fin 3 → ℕ) (h : off = ![k, 0, start w])
    (hinb : ∀ a, off a + S1x800x1152.size a ≤ S14x800x10240.size a) :
    (Rect.unit (s := S14x800x10240) off S1x800x1152.size hinb).WholeWords p := by
  subst h
  exact Affine.words_rows (by decide) rfl rfl

/-- Each side condition the kernel assumes of a cache length holds of every word. -/
theorem chk1 (k : Fin k0_t1_loop.trips) (w : BitVec 32) : k0_chk1 k w :=
  have hk : k.val < 14 := lt_of_lt_of_eq k.isLt trips1
  ⟨by rw [mult1_toNat]; exact start_dvd w, inb_window k hk w _ (off4_eq k w),
    words_window k w _ _ (off4_eq k w), words_window k w _ _ (off4_eq k w)⟩
theorem chk2 (k : Fin k0_t2_loop.trips) (w : BitVec 32) : k0_chk2 k w :=
  have hk : k.val < 14 := lt_of_lt_of_eq k.isLt trips2
  ⟨by rw [mult2_toNat]; exact start_dvd w, inb_window k hk w _ (off8_eq k w), words_window k w _ _ (off8_eq k w),
    inb_window k hk w _ (off23_eq k w), words_window k w _ _ (off23_eq k w)⟩
theorem chk3 (w : BitVec 32) : k0_chk3 w := by unfold k0_chk3; rw [mult3_toNat]; exact start_dvd w

end Cert.Proof.KernelIdeal
-- ==== Proof.Base.lean ====
/- The kernel's operands at the buffers the launch gives them, the windows its copies name, and what the two staged
   caches hold once every copy has landed: in each row 1152 positions from the row's start on, then the row's
   first 128 positions. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Words
public import Idealize.ShloMosaic.Lib.Pipeline.FrameBody
public import Idealize.ShloMosaic.Lib.Ring
public import Idealize.ShloMosaic.Lib.Tactic
public import Idealize.ShloMosaic.Lib.ValueIdxCore

@[expose] public section

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The operands -/

abbrev hLen : Memref sig .tc .hbm S14 .i32 := Memref.whole main_arg6
abbrev hX : Memref sig .tc .hbm S14x6400 .bf16 := Memref.whole main_v0
abbrev hKn : Memref sig .tc .hbm S5x14x160 .bf16 := Memref.whole main_v2
abbrev hVn : Memref sig .tc .hbm S5x14x160 .bf16 := Memref.whole main_v4
abbrev hVs : Memref sig .tc .hbm S5x14x160 .f32 := Memref.whole main_v5
abbrev hK : Memref sig .tc .hbm S14x800x10240 .bf16 := Memref.whole main_v7
abbrev hV : Memref sig .tc .hbm S14x800x10240 .fp8e4m3 := Memref.whole main_v9
abbrev hO : Memref sig .tc .hbm S14x6400 .bf16 := Memref.whole main_v10_0
abbrev hC : Memref sig .tc .hbm S14x6400 .f32 := Memref.whole main_v10_1
abbrev sLen : Memref sig .tc .smem S14 .i32 := Memref.whole cc0_scratch0
abbrev sX : Memref sig .tc .vmem S14x6400 .bf16 := Memref.whole cc0_scratch1
abbrev sKn : Memref sig .tc .vmem S5x14x160 .bf16 := Memref.whole cc0_scratch2
abbrev sVn : Memref sig .tc .vmem S5x14x160 .bf16 := Memref.whole cc0_scratch3
abbrev sVs : Memref sig .tc .vmem S5x14x160 .f32 := Memref.whole cc0_scratch4
abbrev sK : Memref sig .tc .vmem S14x800x1280 .bf16 := Memref.whole cc0_scratch5
abbrev sV : Memref sig .tc .vmem S14x800x1280 .fp8e4m3 := Memref.whole cc0_scratch6
abbrev sQa : Memref sig .tc .vmem S680x128 .f32 := Memref.whole cc0_scratch7
abbrev sQb : Memref sig .tc .vmem S680x128 .f32 := Memref.whole cc0_scratch8
abbrev sKf : Memref sig .tc .vmem S5x14x160 .f32 := Memref.whole cc0_scratch9
abbrev sVf : Memref sig .tc .vmem S5x14x160 .f32 := Memref.whole cc0_scratch10
abbrev sSf : Memref sig .tc .vmem S5x14x160 .f32 := Memref.whole cc0_scratch11
abbrev sOa : Memref sig .tc .vmem S680x128 .f32 := Memref.whole cc0_scratch12
abbrev sOb : Memref sig .tc .vmem S680x128 .f32 := Memref.whole cc0_scratch13
abbrev sCa : Memref sig .tc .vmem S680x128 .f32 := Memref.whole cc0_scratch14
abbrev sCb : Memref sig .tc .vmem S680x128 .f32 := Memref.whole cc0_scratch15
abbrev sO : Memref sig .tc .vmem S14x6400 .bf16 := Memref.whole cc0_scratch16
abbrev sC : Memref sig .tc .vmem S14x6400 .f32 := Memref.whole cc0_scratch17

/-- What a memref's buffer holds on core `c`. -/
abbrev Bf (c : Dev nD) {sp : Space} {S : Shape} {e : EltTy} (M : Memref sig .tc sp S e) : Type := Buf (Elt F) (M.view.loc (c : Thread nD τ))
/-- The buffer held whole. -/
abbrev pt (c : Dev nD) {sp : Space} {S : Shape} {e : EltTy} (M : Memref sig .tc sp S e) (f : Bf (F := F) c M) : sProp 𝕄 :=
  M.view.loc (c : Thread nD τ) ↦{fullShare} f

/-- A batch row. Both loops take one trip per row. -/
abbrev Row : Type := Fin k0_t1_loop.trips

/-! ## The windows of the row copies -/

/-- The destination of row `k`'s window: positions 0 to 1151 of the staged row. -/
abbrev slot {e : EltTy} (M : Memref sig .tc .vmem S14x800x1280 e) (k : Row) : Memref sig .tc .vmem S800x1152 e :=
  (M.slice (Rect.unit (s := S14x800x1280) (k0_off3 k) S1x800x1152.size (k0_off3_inb k)) (fun _ => rfl)).squeeze S800x1152 squeezes_S1x800x1152_S800x1152
/-- The source of row `k`'s window when its length is the word `w`. -/
abbrev src {e : EltTy} (M : Memref sig .tc .hbm S14x800x10240 e) (k : Row) (w : BitVec 32) : Memref sig .tc .hbm S800x1152 e :=
  (M.slice (Rect.unit (s := S14x800x10240) (k0_off4 k w) S1x800x1152.size (k0_off4_inb k w (chk1 k w))) (fun _ => rfl)).squeeze S800x1152 squeezes_S1x800x1152_S800x1152
/-- The source and destination of the copy of every row's first 128 positions. -/
abbrev sinkSrc {e : EltTy} (M : Memref sig .tc .hbm S14x800x10240 e) : Memref sig .tc .hbm S14x800x128 e :=
  M.slice (Rect.unit (s := S14x800x10240) ![0, 0, 0] S14x800x128.size inb_S14x800x10240_S14x800x128_0_0_0) (fun _ => rfl)
abbrev sinkDst {e : EltTy} (M : Memref sig .tc .vmem S14x800x1280 e) : Memref sig .tc .vmem S14x800x128 e :=
  M.slice (Rect.unit (s := S14x800x1280) ![0, 0, 1152] S14x800x128.size inb_S14x800x1280_S14x800x128_0_0_1152) (fun _ => rfl)

abbrev kCell (k : Row) : SemLoc sig :=
  .dma ((cc0_scratch21.slice (Rect.unit (s := S14) (k0_off2 k) S1.size (k0_off2_inb k))).squeeze S_ squeezes_S1_S_).sem
abbrev vCell (k : Row) : SemLoc sig :=
  .dma ((cc0_scratch22.slice (Rect.unit (s := S14) (k0_off2 k) S1.size (k0_off2_inb k))).squeeze S_ squeezes_S1_S_).sem

/-! ## What the staged caches hold -/

/-- The cache position behind position `l` of a staged row whose length is the word `w`. -/
def srcPos (w : BitVec 32) (l : ℕ) : ℕ := if l < 1152 then start w + l else l - 1152

theorem srcPos_lt (w : BitVec 32) {l : ℕ} (h : l < 1280) : srcPos w l < 10240 := by
  have := start_le w
  unfold srcPos; split <;> omega

/-- The staged cache: of row `b`, position `l` is the cache's position `start + l` for `l < 1152`,
    and its position `l - 1152` from there on. -/
def staged {e : EltTy} (X : S14x800x10240.Idx → Elt F e) (ln : S14.Idx → BitVec 32) (i : S14x800x1280.Idx) : Elt F e :=
  X (ix3 (n0 := 14) (n1 := 800) (n2 := 10240) (i 0) (i 1) ⟨srcPos (ln (ix1 (n := 14) (i 0))) (i 2).val, srcPos_lt _ (i 2).isLt⟩)

theorem staged_eq {e : EltTy} (X : S14x800x10240.Idx → Elt F e) (ln : S14.Idx → BitVec 32) (i : S14x800x1280.Idx) (j : S14x800x10240.Idx)
    (w : BitVec 32) (hw : ∀ b : Fin 14, b.val = (j 0).val → w = ln (ix1 b))
    (h0 : (i 0).val = (j 0).val) (h1 : (i 1).val = (j 1).val) (h2 : srcPos w (i 2).val = (j 2).val) :
    staged X ln i = X j := by
  unfold staged
  congr 1
  funext a
  apply Fin.ext
  match a with
  | 0 => exact h0
  | 1 => exact h1
  | 2 => rw [← h2, hw (i 0) h0]

/-- A row's window of the staged cache takes the row's window of the cache. -/
theorem staged_window {e : EltTy} (X : S14x800x10240.Idx → Elt F e) (ln : S14.Idx → BitVec 32) (k : Row) (w : BitVec 32)
    (hw : w = ln (ix1 (n := 14) k)) (y : S1x800x1152.Idx) :
    staged X ln ((Rect.unit (s := S14x800x1280) (k0_off3 k) S1x800x1152.size (k0_off3_inb k)).emb y)
      = X ((Rect.unit (s := S14x800x10240) (k0_off4 k w) S1x800x1152.size (k0_off4_inb k w (chk1 k w))).emb y) := by
  have y0 : (y 0).val < 1 := (y 0).isLt
  have y2 : (y 2).val < 1152 := (y 2).isLt
  have a0 : k0_off3 k 0 = k.val := congrFun (off3_eq k) 0
  have a1 : k0_off3 k 1 = 0 := congrFun (off3_eq k) 1
  have a2 : k0_off3 k 2 = 0 := congrFun (off3_eq k) 2
  have b0 : k0_off4 k w 0 = k.val := congrFun (off4_eq k w) 0
  have b1 : k0_off4 k w 1 = 0 := congrFun (off4_eq k w) 1
  have b2 : k0_off4 k w 2 = start w := congrFun (off4_eq k w) 2
  refine staged_eq X ln _ _ w ?_ ?_ ?_ ?_
  · intro b hb
    replace hb : b.val = k0_off4 k w 0 + 1 * (y 0).val := hb
    have : b = k := Fin.ext (by omega)
    rw [this, hw]
  · show k0_off3 k 0 + 1 * (y 0).val = k0_off4 k w 0 + 1 * (y 0).val; omega
  · show k0_off3 k 1 + 1 * (y 1).val = k0_off4 k w 1 + 1 * (y 1).val; omega
  · show srcPos w (k0_off3 k 2 + 1 * (y 2).val) = k0_off4 k w 2 + 1 * (y 2).val
    unfold srcPos; rw [if_pos (by omega)]; omega

/-- The positions from 1152 on of the staged cache take each row's first 128 positions. -/
theorem staged_sink {e : EltTy} (X : S14x800x10240.Idx → Elt F e) (ln : S14.Idx → BitVec 32) (y : S14x800x128.Idx) :
    staged X ln ((Rect.unit (s := S14x800x1280) ![0, 0, 1152] S14x800x128.size inb_S14x800x1280_S14x800x128_0_0_1152).emb y)
      = X ((Rect.unit (s := S14x800x10240) ![0, 0, 0] S14x800x128.size inb_S14x800x10240_S14x800x128_0_0_0).emb y) := by
  refine staged_eq X ln _ _ (ln (ix1 (n := 14) (y 0))) ?_ rfl rfl ?_
  · intro b hb
    replace hb : b.val = 0 + 1 * (y 0).val := hb
    have : b = y 0 := Fin.ext (by omega)
    rw [this]
  · show srcPos _ (1152 + 1 * (y 2).val) = 0 + 1 * (y 2).val
    unfold srcPos; rw [if_neg (by omega)]; omega

/-- The copy of row `k`'s window of the first cache lands what `staged` says. -/
theorem landK (c : Dev nD) (X : Bf (F := F) c hK) (d : Bf (F := F) c sK) (ln : S14.Idx → BitVec 32) (k : Row) (w : BitVec 32)
    (hw : w = ln (ix1 (n := 14) k)) (i : Idx (sK.view.loc (c : Thread nD τ))) (hi : i ∈ (slot sK k).view.set) :
    View.write (Elt F) (slot sK k).view d (ReadAs.same.apply ((src hK k w).view.read (Elt F) X)) Finset.univ i
      = staged X ln i := by
  obtain ⟨x, -, rfl⟩ := Finset.mem_map.1 hi
  refine (View.write_emb_of_mem _ _ (Finset.mem_univ x)).trans ?_
  exact (staged_window X ln k w hw _).symm

theorem landV (c : Dev nD) (X : Bf (F := F) c hV) (d : Bf (F := F) c sV) (ln : S14.Idx → BitVec 32) (k : Row) (w : BitVec 32)
    (hw : w = ln (ix1 (n := 14) k)) (i : Idx (sV.view.loc (c : Thread nD τ))) (hi : i ∈ (slot sV k).view.set) :
    View.write (Elt F) (slot sV k).view d (ReadAs.same.apply ((src hV k w).view.read (Elt F) X)) Finset.univ i
      = staged X ln i := by
  obtain ⟨x, -, rfl⟩ := Finset.mem_map.1 hi
  refine (View.write_emb_of_mem _ _ (Finset.mem_univ x)).trans ?_
  exact (staged_window X ln k w hw _).symm

theorem landSinkK (c : Dev nD) (X : Bf (F := F) c hK) (d : Bf (F := F) c sK) (ln : S14.Idx → BitVec 32)
    (i : Idx (sK.view.loc (c : Thread nD τ))) (hi : i ∈ (sinkDst sK).view.set) :
    View.write (Elt F) (sinkDst sK).view d (ReadAs.same.apply ((sinkSrc hK).view.read (Elt F) X)) Finset.univ i
      = staged X ln i := by
  obtain ⟨x, -, rfl⟩ := Finset.mem_map.1 hi
  refine (View.write_emb_of_mem _ _ (Finset.mem_univ x)).trans ?_
  exact (staged_sink X ln _).symm

theorem landSinkV (c : Dev nD) (X : Bf (F := F) c hV) (d : Bf (F := F) c sV) (ln : S14.Idx → BitVec 32)
    (i : Idx (sV.view.loc (c : Thread nD τ))) (hi : i ∈ (sinkDst sV).view.set) :
    View.write (Elt F) (sinkDst sV).view d (ReadAs.same.apply ((sinkSrc hV).view.read (Elt F) X)) Finset.univ i
      = staged X ln i := by
  obtain ⟨x, -, rfl⟩ := Finset.mem_map.1 hi
  refine (View.write_emb_of_mem _ _ (Finset.mem_univ x)).trans ?_
  exact (staged_sink X ln _).symm

/-! ## The sets of the windows -/

/-- A row of the staged cache. -/
def rowSet (k : Row) : Finset S14x800x1280.Idx := Finset.univ.filter fun i => (i 0).val = k.val
/-- Its positions below 1152, which its window's copy writes, -/
def winSet (k : Row) : Finset S14x800x1280.Idx := Finset.univ.filter fun i => (i 0).val = k.val ∧ (i 2).val < 1152
/-- and the others, which the copy of the first 128 positions writes. -/
def tailSet (k : Row) : Finset S14x800x1280.Idx := Finset.univ.filter fun i => (i 0).val = k.val ∧ ¬(i 2).val < 1152

theorem slot_set (k : Row) : (Rect.unit (s := S14x800x1280) (k0_off3 k) S1x800x1152.size (k0_off3_inb k)).set = winSet k := by
  ext i
  rw [Rect.mem_set_unit, off3_eq]
  simp only [winSet, Finset.mem_filter, Finset.mem_univ, true_and]
  constructor
  · intro h
    have h0 := h 0; have h2 := h 2
    simp at h0 h2
    omega
  · rintro ⟨h0, h2⟩ a
    match a with
    | 0 => simp; omega
    | 1 => have : (i 1).val < 800 := (i 1).isLt; simp; omega
    | 2 => simp; omega

theorem slotK_set (k : Row) : (slot sK k).view.set = winSet k :=
  (Memref.set_view_squeeze _ _).trans ((View.set_slice_whole _ _).trans (slot_set k))
theorem slotV_set (k : Row) : (slot sV k).view.set = winSet k :=
  (Memref.set_view_squeeze _ _).trans ((View.set_slice_whole _ _).trans (slot_set k))

theorem sink_set : (Rect.unit (s := S14x800x1280) ![0, 0, 1152] S14x800x128.size inb_S14x800x1280_S14x800x128_0_0_1152).set
    = Finset.univ.biUnion tailSet := by
  ext i
  rw [Rect.mem_set_unit]
  simp only [tailSet, Finset.mem_biUnion, Finset.mem_filter, Finset.mem_univ, true_and]
  constructor
  · intro h
    have h2 := h 2
    simp at h2
    exact ⟨⟨(i 0).val, trips1 ▸ (i 0).isLt⟩, rfl, by omega⟩
  · rintro ⟨k, h0, h2⟩ a
    match a with
    | 0 => have : (i 0).val < 14 := (i 0).isLt; simp; omega
    | 1 => have : (i 1).val < 800 := (i 1).isLt; simp; omega
    | 2 => have : (i 2).val < 1280 := (i 2).isLt; simp; omega
theorem sinkK_set : (sinkDst sK).view.set = Finset.univ.biUnion tailSet := (View.set_slice_whole _ _).trans sink_set
theorem sinkV_set : (sinkDst sV).view.set = Finset.univ.biUnion tailSet := (View.set_slice_whole _ _).trans sink_set

theorem tail_disjoint (a b : Row) (h : a ≠ b) : Disjoint (tailSet a) (tailSet b) := by
  rw [Finset.disjoint_left]; intro i hi hj
  simp only [tailSet, Finset.mem_filter] at hi hj
  exact h (Fin.ext (hi.2.1.symm.trans hj.2.1))
theorem win_disjoint (a b : Row) (h : a ≠ b) : Disjoint (winSet a) (winSet b) := by
  rw [Finset.disjoint_left]; intro i hi hj
  simp only [winSet, Finset.mem_filter] at hi hj
  exact h (Fin.ext (hi.2.1.symm.trans hj.2.1))
theorem row_disjoint (a b : Row) (h : a ≠ b) : Disjoint (rowSet a) (rowSet b) := by
  rw [Finset.disjoint_left]; intro i hi hj
  simp only [rowSet, Finset.mem_filter] at hi hj
  exact h (Fin.ext (hi.2.symm.trans hj.2))
theorem win_tail_disjoint (k : Row) : Disjoint (winSet k) (tailSet k) := by
  rw [Finset.disjoint_left]; intro i hi hj
  simp only [winSet, tailSet, Finset.mem_filter] at hi hj
  exact hj.2.2 hi.2.2
theorem win_union_tail (k : Row) : winSet k ∪ tailSet k = rowSet k := by
  ext i; simp only [winSet, tailSet, rowSet, Finset.mem_union, Finset.mem_filter, Finset.mem_univ, true_and]; tauto
theorem win_tails_disjoint : Disjoint (Finset.univ.biUnion winSet) (Finset.univ.biUnion tailSet) := by
  rw [Finset.disjoint_left]; intro i hi hj
  simp only [winSet, tailSet, Finset.mem_biUnion, Finset.mem_filter, Finset.mem_univ, true_and] at hi hj
  obtain ⟨a, -, ha⟩ := hi; obtain ⟨b, -, hb⟩ := hj
  exact hb ha
theorem wins_union_tails : Finset.univ.biUnion winSet ∪ Finset.univ.biUnion tailSet = Finset.univ := by
  ext i; simp only [winSet, tailSet, Finset.mem_union, Finset.mem_biUnion, Finset.mem_filter, Finset.mem_univ, true_and, iff_true]
  by_cases h : (i 2).val < 1152
  · exact .inl ⟨⟨(i 0).val, trips1 ▸ (i 0).isLt⟩, rfl, h⟩
  · exact .inr ⟨⟨(i 0).val, trips1 ▸ (i 0).isLt⟩, rfl, h⟩
theorem rows_union : Finset.univ.biUnion rowSet = Finset.univ := by
  ext i; simp only [rowSet, Finset.mem_biUnion, Finset.mem_filter, Finset.mem_univ, true_and, iff_true]
  exact ⟨⟨(i 0).val, trips1 ▸ (i 0).isLt⟩, rfl⟩

end Cert.Proof.KernelIdeal
-- ==== Proof.Loop1.lean ====
/- The first loop: each trip starts the two copies of one row's window, each on the row's own semaphore. -/
module

public import proofs.«01_k».proof.Proof.Base

@[expose] public section

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev body1 (k : Row) (a : Unit) := Gen.k0_t1_body (F := F) hLen (Memref.isWhole_whole _) hX (Memref.isWhole_whole _) hKn (Memref.isWhole_whole _) hVn (Memref.isWhole_whole _) hVs (Memref.isWhole_whole _) hK (Memref.isWhole_whole _) hV (Memref.isWhole_whole _) hO (Memref.isWhole_whole _) hC (Memref.isWhole_whole _) sLen (Memref.isWhole_whole _) sX (Memref.isWhole_whole _) sKn (Memref.isWhole_whole _) sVn (Memref.isWhole_whole _) sVs (Memref.isWhole_whole _) sK (Memref.isWhole_whole _) sV (Memref.isWhole_whole _) sQa (Memref.isWhole_whole _) sQb (Memref.isWhole_whole _) sKf (Memref.isWhole_whole _) sVf (Memref.isWhole_whole _) sSf (Memref.isWhole_whole _) sOa (Memref.isWhole_whole _) sOb (Memref.isWhole_whole _) sCa (Memref.isWhole_whole _) sCb (Memref.isWhole_whole _) sO (Memref.isWhole_whole _) sC (Memref.isWhole_whole _) cc0_scratch18 cc0_scratch19 cc0_scratch20 cc0_scratch21 cc0_scratch22 cc0_scratch23 k a

/-- The word a row's length is. -/
abbrev lenW (c : Dev nD) (fLen : Bf (F := F) c sLen) (k : Row) : BitVec 32 := fLen (ix1 (n := 14) k)

/-- The share of a cache array row `k`'s copy borrows. -/
abbrev tok (k : Row) : PosShare TreeShare := Transfers.shareTok fullShare 14 k

variable (c : Dev nD) (fLen : Bf (F := F) c sLen) (fK : Bf (F := F) c hK) (fV : Bf (F := F) c hV)
  (dK : Bf (F := F) c sK) (dV : Bf (F := F) c sV)

/-- Row `k`'s first-cache copy not started: its semaphore at zero, a share of the cache, the destination window as it was. -/
def idleK (k : Row) : sProp 𝕄 :=
  iprop(semVal ((c : Thread nD τ), kCell k) 0
    ∗ (hK.view.loc (c : Thread nD τ) ↦{tok k} fK) ∗ (sK.view.loc (c : Thread nD τ) ↦[winSet k]{fullShare} dK))
def idleV (k : Row) : sProp 𝕄 :=
  iprop(semVal ((c : Thread nD τ), vCell k) 0
    ∗ (hV.view.loc (c : Thread nD τ) ↦{tok k} fV) ∗ (sV.view.loc (c : Thread nD τ) ↦[winSet k]{fullShare} dV))

/-- The copy under way: it will deliver the destination window at the staged contents and the lent part of the share; the
    share's other part stays here. -/
def busyK (k : Row) : sProp 𝕄 :=
  iprop(Transfers.Flight (countersEmb (U := Pipeline.UD sig nD τ)) (c : Thread nD τ) (kCell k) () ((slot sK k).view.amount (kCell k))
      iprop((sK.view.loc (c : Thread nD τ) ↦[winSet k]{fullShare} staged fK fLen)
        ∗ (hK.view.loc (c : Thread nD τ) ↦[(src hK k (lenW c fLen k)).view.set]{tok k} fK))
    ∗ (hK.view.loc (c : Thread nD τ) ↦[Finset.univ \ (src hK k (lenW c fLen k)).view.set]{tok k} fK))
def busyV (k : Row) : sProp 𝕄 :=
  iprop(Transfers.Flight (countersEmb (U := Pipeline.UD sig nD τ)) (c : Thread nD τ) (vCell k) () ((slot sV k).view.amount (vCell k))
      iprop((sV.view.loc (c : Thread nD τ) ↦[winSet k]{fullShare} staged fV fLen)
        ∗ (hV.view.loc (c : Thread nD τ) ↦[(src hV k (lenW c fLen k)).view.set]{tok k} fV))
    ∗ (hV.view.loc (c : Thread nD τ) ↦[Finset.univ \ (src hV k (lenW c fLen k)).view.set]{tok k} fV))

/-- A row in the first loop: its copies not started, or under way. -/
def row1 (k : Row) : Bool → sProp 𝕄
  | false => iprop(idleK c fK dK k ∗ idleV c fV dV k)
  | true => iprop(busyK c fLen fK k ∗ busyV c fLen fV k)

/-- What row `k`'s copy delivers, at the staged contents. -/
theorem landedK (k : Row) (R : sProp 𝕄) :
    iprop((sK.view.loc (c : Thread nD τ) ↦[(slot sK k).view.set]{fullShare}
        View.write (Elt F) (slot sK k).view dK (ReadAs.same.apply ((src hK k (lenW c fLen k)).view.read (Elt F) fK)) Finset.univ) ∗ R)
      ⊢ iprop((sK.view.loc (c : Thread nD τ) ↦[(slot sK k).view.set]{fullShare} staged fK fLen) ∗ R) :=
  sep_mono_left (Entails.of_eq (pointsTo_congr (landK c fK dK fLen k _ rfl)))
theorem landedV (k : Row) (R : sProp 𝕄) :
    iprop((sV.view.loc (c : Thread nD τ) ↦[(slot sV k).view.set]{fullShare}
        View.write (Elt F) (slot sV k).view dV (ReadAs.same.apply ((src hV k (lenW c fLen k)).view.read (Elt F) fV)) Finset.univ) ∗ R)
      ⊢ iprop((sV.view.loc (c : Thread nD τ) ↦[(slot sV k).view.set]{fullShare} staged fV fLen) ∗ R) :=
  sep_mono_left (Entails.of_eq (pointsTo_congr (landV c fV dV fLen k _ rfl)))

theorem numel_win : 0 < S800x1152.numel := by
  have : S800x1152.numel = 800 * 1152 := by simp [Shape.numel, Fin.prod_univ_two]
  omega

/-- One trip starts its row's copies. -/
theorem trip1 (k : Row) (Q : Unit → sProp 𝕄) :
    iprop(pt c sLen fLen ∗ row1 c fLen fK fV dK dV k false
      ∗ (pt c sLen fLen -∗ row1 c fLen fK fV dK dV k true -∗ Q ()))
      ⊢ wp frame (wpE (defs₀ (F := F)) Variants.none (c : Thread nD τ) none) Set.univ (body1 k ()) Q := by
  have hchk := chk1
  unfold row1 idleK idleV busyK busyV
  simp only [← slotK_set, ← slotV_set]
  unfold body1 Gen.k0_t1_body; simp only [k0_part1_eq_skeleton]; unfold k0_part1_skel
  iintro ⟨HL, ⟨⟨Hsk, Hk, Hdk⟩, ⟨Hsv, Hv, Hdv⟩⟩, HQ⟩
  ihave HkS := (pointsTo_split_subset (q := tok k) (f := fK) (Finset.subset_univ (src hK k (lenW c fLen k)).view.set)).1 $$ Hk
  ihave HvS := (pointsTo_split_subset (q := tok k) (f := fV) (Finset.subset_univ (src hV k (lenW c fLen k)).view.set)).1 $$ Hv
  icases HkS with ⟨Hk, Hk'⟩
  icases HvS with ⟨Hv, Hv'⟩
  sl_exec
  have e : trip1.sl.r c fLen k = lenW c fLen k := by
    unfold trip1.sl.r lenW
    show fLen _ = fLen _
    congr 1
    funext a
    apply Fin.ext
    match a with
    | 0 => show k0_off1 k 0 + 1 * 0 = k.val
           rw [off1_eq]; rfl
  rw [e]
  iapply (Transfers.wp_dmaLocal (countersEmb (U := Pipeline.UD sig nD τ)) Variants.none (c : Thread nD τ) none () _ rfl
    (View.amount_pos _ _ numel_win) (Finset.Subset.refl _)
    (src := src hK k (lenW c fLen k)) (dst := slot sK k) (q := tok k) (fs := fK) (fd := dK)) $$ [Hsk Hk Hdk]
  · isplitl [Hk]; · iexact Hk
    isplitl [Hdk]; · iexact Hdk
    iexact Hsk
  iintro HfK
  iapply (Transfers.wp_dmaLocal (countersEmb (U := Pipeline.UD sig nD τ)) Variants.none (c : Thread nD τ) none () _ rfl
    (View.amount_pos _ _ numel_win) (Finset.Subset.refl _)
    (src := src hV k (lenW c fLen k)) (dst := slot sV k) (q := tok k) (fs := fV) (fd := dV)) $$ [Hsv Hv Hdv]
  · isplitl [Hv]; · iexact Hv
    isplitl [Hdv]; · iexact Hdv
    iexact Hsv
  iintro HfV
  rw [Prog.bind]
  sl_step
  ihave HfK := (Transfers.Flight_mono (countersEmb (U := Pipeline.UD sig nD τ)) (c : Thread nD τ) (landedK c fLen fK dK k _)) $$ HfK
  ihave HfV := (Transfers.Flight_mono (countersEmb (U := Pipeline.UD sig nD τ)) (c : Thread nD τ) (landedV c fLen fV dV k _)) $$ HfV
  iapply HQ $$ HL
  isplitl [HfK Hk']
  · isplitl [HfK]; · iexact HfK
    iexact Hk'
  · isplitl [HfV]; · iexact HfV
    iexact Hv'

/-- The rows after `n` trips of the first loop: the copies of the first `n` under way. -/
def st1 (n : ℕ) : Row → Bool := fun k => decide (k.val < n)

theorem st1_succ (k : Row) : st1 (k.val + 1) = Function.update (st1 k.val) k true := by
  funext j
  by_cases h : j = k
  · subst h; simp [st1]
  · rw [Function.update_of_ne h]
    have : j.val ≠ k.val := fun e => h (Fin.ext e)
    simp only [st1]; congr 1; apply propext; omega

/-- The first loop's invariant: the length words held, every row in its state. -/
@[instance_reducible] def loop1 : LoopInv (M := MT nD τ sig Unit (Elt F) ℕ (Pipeline.UD sig nD τ) ℕ) Idealize.ShloMosaic.frame
    (wpE (defs₀ (F := F)) Variants.none (c : Thread nD τ) none) Set.univ
    k0_t1_loop.lb k0_t1_loop.ub k0_t1_loop.st k0_t1_ok () body1 where
  inv n _ := iprop(pt c sLen fLen ∗ Ring.AtW (row1 c fLen fK fV dK dV) (st1 n))
  step k acc := by
    rw [st1_succ, Ring.AtW_focus (row1 c fLen fK fV dK dV) (st1 k.val) k]
    have hk : st1 k.val k = false := by simp [st1]
    rw [hk]
    iintro ⟨HL, Hr, HR⟩
    iapply (trip1 c fLen fK fV dK dV k)
    isplitl [HL]; · iexact HL
    isplitl [Hr]; · iexact Hr
    iintro HL Hr
    isplitl [HL]; · iexact HL
    iapply (Ring.AtW_update (row1 c fLen fK fV dK dV) (st1 k.val) k true)
    isplitl [Hr]; · iexact Hr
    iexact HR
end Cert.Proof.KernelIdeal
-- ==== Proof.Row.lean ====
/- One row's attention: what the second loop reads for a group of heads and what it stores. -/
module

public import proofs.«01_k».proof.Proof.Base

@[expose] public section

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem row_lt (k : Row) : k.val < 14 := trips1 ▸ k.isLt

/-! ## Stores through rectangles -/

/-- After stores through rectangles of a view a fact holds at every position of which it holds for every value stored there,
and, at the positions no store reached, for what was there. -/
theorem read_writes_all {κ : Kind} {sp : Space} {s : Shape} {e : EltTy} (v : View sig κ sp s e) (f : v.ty.Contents (Elt F))
    (P : s.Idx → Elt F e → Prop) : ∀ (L : List (View.Piece (Elt F) s e)),
      (∀ p ∈ L, ∀ x : p.1.shape.Idx, P (p.1.emb x) (p.2 x)) → ∀ y : s.Idx,
      ((∀ p ∈ L, ∀ x : p.1.shape.Idx, p.1.emb x ≠ y) → P y (v.read (Elt F) f y)) →
      P y (v.read (Elt F) (v.writes (Elt F) f L) y)
  | [], _, y, h => h (fun _ hm => absurd hm List.not_mem_nil)
  | p :: L, hP, y, h => by
    by_cases hy : y ∈ p.1.set
    · obtain ⟨x, rfl⟩ : ∃ x, p.1.emb x = y := p.1.exists_idx_of_mem hy
      rw [View.read_writes_cons_emb]
      exact hP p List.mem_cons_self x
    · have hy' : y ∉ Finset.univ.map p.1.emb := by rwa [Rect.map_emb_univ]
      rw [View.writes_cons, View.read_slice_write_of_not_mem p.1 _ _ _ hy']
      refine read_writes_all v f P L (fun q hq => hP q (List.mem_cons_of_mem _ hq)) y fun hL => h ?_
      intro q hq x hx
      rcases List.mem_cons.mp hq with rfl | hq'
      · exact hy (hx ▸ (by rw [← Rect.map_emb_univ]; exact Finset.mem_map_of_mem _ (Finset.mem_univ x)))
      · exact hL q hq' x hx

/-! ## What a trip reads -/

/-- The buffer's row of head `8 g + j` and batch row `k`. -/
def hr (k : Row) (g : Fin 5) (i : S8x128.Idx) : S680x128.Idx :=
  ix2 (n0 := 680) (n1 := 128) ⟨136 * g.val + k.val + 17 * (i 0).val, by
    have := row_lt k; have : (i 0).val < 8 := (i 0).isLt; omega⟩ (i 1)

/-- The eight rows of a group. -/
def qrow (f : S680x128.Idx → Elt F .f32) (k : Row) (g : Fin 5) : Vec F S8x128 .f32 := fun i => f (hr k g i)
/-- A row of a group's parameter. -/
def kvRow (f : S5x14x160.Idx → Elt F .f32) (k : Row) (g : Fin 5) : Vec F S1x1x160 .f32 :=
  fun i => f (ix3 (n0 := 5) (n1 := 14) (n2 := 160) g ⟨k.val, row_lt k⟩ (i 2))
/-- A group's block of a staged row. -/
def blk {e : EltTy} (f : S14x800x1280.Idx → Elt F e) (k : Row) (g : Fin 5) : Vec F S1x160x1280 e :=
  fun i => f (ix3 (n0 := 14) (n1 := 800) (n2 := 1280) ⟨k.val, row_lt k⟩ ⟨160 * g.val + (i 1).val, by
    have : (i 1).val < 160 := (i 1).isLt; omega⟩ (i 2))

theorem rd10 {κ : Kind} {sp : Space} (v : View sig κ sp S680x128 .f32) (f : v.ty.Contents (Elt F)) (k : Row) (g : Fin 5)
    {off : Fin 2 → ℕ} (h : off = ![136 * g.val + k.val, 0]) (inb : ∀ a, S8x128.size a = 0 ∨ off a + ![17, 1] a * (S8x128.size a - 1) < S680x128.size a) :
    v.readAt (Elt F) (⟨off, S8x128.size, ![17, 1], inb⟩ : LoadRect S680x128) f
      = qrow (v.read (Elt F) f) k g := by
  subst h
  funext i
  show v.read (Elt F) f _ = v.read (Elt F) f _
  congr 1
  funext a
  apply Fin.ext
  match a with
  | 0 => rfl
  | 1 => show 0 + 1 * (i 1).val = (i 1).val; omega

theorem rdRow {κ : Kind} {sp : Space} (v : View sig κ sp S5x14x160 .f32) (f : v.ty.Contents (Elt F)) (k : Row) (g : Fin 5)
    {off : Fin 3 → ℕ} (h : off = ![g.val, k.val, 0]) (inb : ∀ a, off a + S1x1x160.size a ≤ S5x14x160.size a) :
    v.readAt (Elt F) (Rect.unit (s := S5x14x160) off S1x1x160.size inb).toLoadRect f = kvRow (v.read (Elt F) f) k g := by
  subst h
  funext i
  show v.read (Elt F) f _ = v.read (Elt F) f _
  congr 1
  funext a
  apply Fin.ext
  have h0 : (i 0).val < 1 := (i 0).isLt
  have h1 : (i 1).val < 1 := (i 1).isLt
  match a with
  | 0 => show g.val + 1 * (i 0).val = g.val; omega
  | 1 => show k.val + 1 * (i 1).val = k.val; omega
  | 2 => show 0 + 1 * (i 2).val = (i 2).val; omega

theorem rdBlk {κ : Kind} {sp : Space} {e : EltTy} (v : View sig κ sp S14x800x1280 e) (f : v.ty.Contents (Elt F)) (k : Row) (g : Fin 5)
    {off : Fin 3 → ℕ} (h : off = ![k.val, 160 * g.val, 0]) (inb : ∀ a, off a + S1x160x1280.size a ≤ S14x800x1280.size a) :
    v.readAt (Elt F) (Rect.unit (s := S14x800x1280) off S1x160x1280.size inb).toLoadRect f = blk (v.read (Elt F) f) k g := by
  subst h
  funext i
  show v.read (Elt F) f _ = v.read (Elt F) f _
  congr 1
  funext a
  apply Fin.ext
  have h0 : (i 0).val < 1 := (i 0).isLt
  match a with
  | 0 => show k.val + 1 * (i 0).val = k.val; omega
  | 1 => show 160 * g.val + 1 * (i 1).val = _; simp [ix3]
  | 2 => show 0 + 1 * (i 2).val = (i 2).val; omega

/-! ## What a trip stores -/

/-- A group's attention over the cache, -/
def rowC (mk : IVec S8x1280 1) (qa qb : Vec F S8x128 .f32) (kn : Vec F S1x1x160 .f32) (K : Vec F S1x160x1280 .bf16)
    (V : Vec F S1x160x1280 .fp8e4m3) (vs : Vec F S1x1x160 .f32) : FVec F S8x160 .f32 :=
  k0_pay45 (k0_pay9 mk qa qb kn K) (k0_pay10 mk qa qb kn K) (k0_pay44 V) vs
/-- and with the new position. -/
def rowO (mk : IVec S8x1280 1) (qa qb : Vec F S8x128 .f32) (kn : Vec F S1x1x160 .f32) (K : Vec F S1x160x1280 .bf16)
    (V : Vec F S1x160x1280 .fp8e4m3) (vs vn : Vec F S1x1x160 .f32) : FVec F S8x160 .f32 :=
  k0_pay46 (k0_pay8 mk qa qb kn K) (k0_pay9 mk qa qb kn K) (k0_pay10 mk qa qb kn K) (k0_pay44 V) vs vn
/-- The first 128 lanes, -/
def headL (x : FVec F S8x160 .f32) : FVec F S8x128 .f32 :=
  shapeCast S8x128 (extractStridedSlice S8x128 ![0, 0] x slices_S8x160_o0_0_S8x128) shapeCasts_S8x128_S8x128
/-- and the other 32, with zeros behind them. -/
def tailL (x : FVec F S8x160 .f32) : FVec F S8x128 .f32 :=
  shapeCast S8x128 (concatenate S8x128 1 [⟨S8x32, extractStridedSlice S8x32 ![0, 128] x slices_S8x160_o0_128_S8x32⟩,
    ⟨S8x96, k0_pay47 (F := F)⟩] concatenates_S8x32_S8x96_S8x128_d1) shapeCasts_S8x128_S8x128

section Payloads
variable (mk : IVec S8x1280 1) (qa qb : Vec F S8x128 .f32) (kn : Vec F S1x1x160 .f32) (K : Vec F S1x160x1280 .bf16)
    (V : Vec F S1x160x1280 .fp8e4m3) (vs vn : Vec F S1x1x160 .f32)
theorem pay48_row : k0_pay48 (k0_pay9 mk qa qb kn K) (k0_pay10 mk qa qb kn K) (k0_pay44 V) vs = headL (rowC mk qa qb kn K V vs) := rfl
theorem pay49_row : k0_pay49 (k0_pay9 mk qa qb kn K) (k0_pay10 mk qa qb kn K) (k0_pay44 V) vs = tailL (rowC mk qa qb kn K V vs) := rfl
theorem pay50_row : k0_pay50 (k0_pay8 mk qa qb kn K) (k0_pay9 mk qa qb kn K) (k0_pay10 mk qa qb kn K) (k0_pay44 V) vs vn = headL (rowO mk qa qb kn K V vs vn) := rfl
theorem pay51_row : k0_pay51 (k0_pay8 mk qa qb kn K) (k0_pay9 mk qa qb kn K) (k0_pay10 mk qa qb kn K) (k0_pay44 V) vs vn = tailL (rowO mk qa qb kn K V vs vn) := rfl
theorem pay55_row : k0_pay55 (k0_pay17 mk qa qb kn K) (k0_pay18 mk qa qb kn K) V vs = headL (rowC mk qa qb kn K V vs) := rfl
theorem pay56_row : k0_pay56 (k0_pay17 mk qa qb kn K) (k0_pay18 mk qa qb kn K) V vs = tailL (rowC mk qa qb kn K V vs) := rfl
theorem pay57_row : k0_pay57 (k0_pay16 mk qa qb kn K) (k0_pay17 mk qa qb kn K) (k0_pay18 mk qa qb kn K) V vs vn = headL (rowO mk qa qb kn K V vs vn) := rfl
theorem pay59_row : k0_pay59 (k0_pay58 (k0_pay16 mk qa qb kn K) (k0_pay17 mk qa qb kn K) (k0_pay18 mk qa qb kn K) V vs vn) = tailL (rowO mk qa qb kn K V vs vn) := rfl
theorem pay63_row : k0_pay63 (k0_pay25 mk qa qb kn K) (k0_pay26 mk qa qb kn K) V vs = headL (rowC mk qa qb kn K V vs) := rfl
theorem pay64_row : k0_pay64 (k0_pay25 mk qa qb kn K) (k0_pay26 mk qa qb kn K) V vs = tailL (rowC mk qa qb kn K V vs) := rfl
theorem pay65_row : k0_pay65 (k0_pay24 mk qa qb kn K) (k0_pay25 mk qa qb kn K) (k0_pay26 mk qa qb kn K) V vs vn = headL (rowO mk qa qb kn K V vs vn) := rfl
theorem pay67_row : k0_pay67 k0_pay62 (k0_pay66 (k0_pay24 mk qa qb kn K) (k0_pay25 mk qa qb kn K) (k0_pay26 mk qa qb kn K) V vs vn) = tailL (rowO mk qa qb kn K V vs vn) := rfl
theorem pay71_row : k0_pay71 (k0_pay34 mk qa (k0_pay27 qb) kn K) (k0_pay35 mk qa (k0_pay27 qb) kn K) V vs = headL (rowC mk qa qb kn K V vs) := rfl
theorem pay72_row : k0_pay72 (k0_pay34 mk qa (k0_pay27 qb) kn K) (k0_pay35 mk qa (k0_pay27 qb) kn K) V vs = tailL (rowC mk qa qb kn K V vs) := rfl
theorem pay74_row : k0_pay74 (k0_pay73 (k0_pay33 mk qa (k0_pay27 qb) kn K) (k0_pay34 mk qa (k0_pay27 qb) kn K) (k0_pay35 mk qa (k0_pay27 qb) kn K) V vs vn) = headL (rowO mk qa qb kn K V vs vn) := rfl
theorem pay75_row : k0_pay75 (k0_pay69 (k0_pay33 mk qa (k0_pay27 qb) kn K) (k0_pay34 mk qa (k0_pay27 qb) kn K) (k0_pay35 mk qa (k0_pay27 qb) kn K) V vs vn) k0_pay70 = tailL (rowO mk qa qb kn K V vs vn) := rfl
theorem pay79_row : k0_pay79 (k0_pay42 mk (k0_pay36 qa qb) kn K) (k0_pay43 mk (k0_pay36 qa qb) kn K) V vs = headL (rowC mk qa qb kn K V vs) := rfl
theorem pay80_row : k0_pay80 (k0_pay42 mk (k0_pay36 qa qb) kn K) (k0_pay43 mk (k0_pay36 qa qb) kn K) V vs = tailL (rowC mk qa qb kn K V vs) := rfl
theorem pay226_row : k0_pay226 (k0_pay77 (k0_pay41 mk (k0_pay36 qa qb) kn K) (k0_pay42 mk (k0_pay36 qa qb) kn K) (k0_pay43 mk (k0_pay36 qa qb) kn K) V vs vn) = headL (rowO mk qa qb kn K V vs vn) := rfl
theorem pay227_row : k0_pay227 (k0_pay77 (k0_pay41 mk (k0_pay36 qa qb) kn K) (k0_pay42 mk (k0_pay36 qa qb) kn K) (k0_pay43 mk (k0_pay36 qa qb) kn K) V vs vn) k0_pay78 = tailL (rowO mk qa qb kn K V vs vn) := rfl
end Payloads

/-! ## The rows already stored -/

/-- The rectangle a trip's group stores through. -/
def rect10 (k : Row) (g : Fin 5) : Rect S680x128 :=
  { off := k0_off10 k (BitVec.ofNat 32 (136 * g.val)), size := S8x128.size, stride := ![17, 1], inb := k0_off10_inb k g, stride_pos := spos_17_1 }

theorem rect10_emb (k : Row) (g : Fin 5) (x : (rect10 k g).shape.Idx) : (rect10 k g).emb x = hr k g x := by
  funext a
  apply Fin.ext
  show k0_off10 k (BitVec.ofNat 32 (136 * g.val)) a + ![17, 1] a * (x a).val = _
  rw [off10_eq k g]
  match a with
  | 0 => rfl
  | 1 => show 0 + 1 * (x 1).val = (x 1).val; omega

/-- The first `n` batch rows hold what `sp` says. -/
def Out5 (f : S680x128.Idx → Elt F .f32) (sp : Row → Fin 5 → FVec F S8x128 .f32) (n : ℕ) : Prop :=
  ∀ k : Row, k.val < n → ∀ g i, f (hr k g i) = sp k g i

theorem hr_inj {k k' : Row} {g g' : Fin 5} {i i' : S8x128.Idx} (h : hr k g i = hr k' g' i') : k = k' ∧ g = g' ∧ i = i' := by
  have h0 : (136 * g.val + k.val + 17 * (i 0).val) = (136 * g'.val + k'.val + 17 * (i' 0).val) := congrArg (fun j : S680x128.Idx => (j 0).val) h
  have h1 : (i 1) = (i' 1) := congrArg (fun j : S680x128.Idx => (j 1)) h
  have := row_lt k; have := row_lt k'
  have : (i 0).val < 8 := (i 0).isLt
  have : (i' 0).val < 8 := (i' 0).isLt
  have hg : g.val = g'.val := by omega
  have hk : k.val = k'.val := by omega
  refine ⟨Fin.ext hk, Fin.ext hg, ?_⟩
  funext a
  match a with
  | 0 => exact Fin.ext (by omega)
  | 1 => exact h1

/-- A trip's five stores add its batch row. -/
theorem out5_step {κ : Kind} {sp' : Space} (v : View sig κ sp' S680x128 .f32) (f : v.ty.Contents (Elt F)) (k : Row)
    (sp : Row → Fin 5 → FVec F S8x128 .f32) (hf : Out5 (v.read (Elt F) f) sp k.val) :
    Out5 (v.read (Elt F) (v.writes (Elt F) f [⟨rect10 k 4, sp k 4⟩, ⟨rect10 k 3, sp k 3⟩, ⟨rect10 k 2, sp k 2⟩, ⟨rect10 k 1, sp k 1⟩, ⟨rect10 k 0, sp k 0⟩])) sp
      (k.val + 1) := by
  intro k' hk' g i
  refine read_writes_all v f (fun y w => ∀ k' : Row, k'.val < k.val + 1 → ∀ g i, y = hr k' g i → w = sp k' g i) _ ?_ (hr k' g i) ?_ k' hk' g i rfl
  · have main : ∀ (g : Fin 5) (x : (rect10 k g).shape.Idx) (k' : Row), k'.val < k.val + 1 → ∀ g' i, (rect10 k g).emb x = hr k' g' i → sp k g x = sp k' g' i := by
      intro g x k' _ g' i h
      rw [rect10_emb] at h
      obtain ⟨rfl, rfl, rfl⟩ := hr_inj h
      rfl
    intro p hp
    simp only [List.mem_cons, List.not_mem_nil, or_false] at hp
    rcases hp with rfl | rfl | rfl | rfl | rfl
    · exact main 4
    · exact main 3
    · exact main 2
    · exact main 1
    · exact main 0
  · intro hL k'' hk'' g' i' h
    obtain ⟨rfl, rfl, rfl⟩ := hr_inj h
    by_cases hlt : k'.val < k.val
    · exact hf k' hlt g i
    · have hk : k' = k := Fin.ext (by omega)
      subst hk
      exfalso
      have hne : ∀ (g' : Fin 5) (w), (⟨rect10 k' g', w⟩ : View.Piece (Elt F) S680x128 .f32) ∈ ([⟨rect10 k' 4, sp k' 4⟩, ⟨rect10 k' 3, sp k' 3⟩, ⟨rect10 k' 2, sp k' 2⟩, ⟨rect10 k' 1, sp k' 1⟩, ⟨rect10 k' 0, sp k' 0⟩] : List (View.Piece (Elt F) S680x128 .f32)) → g = g' → False := by
        rintro g' w hm rfl
        exact hL _ hm i (rect10_emb k' g i)
      fin_cases g
      · exact hne 0 (sp k' 0) (by simp) rfl
      · exact hne 1 (sp k' 1) (by simp) rfl
      · exact hne 2 (sp k' 2) (by simp) rfl
      · exact hne 3 (sp k' 3) (by simp) rfl
      · exact hne 4 (sp k' 4) (by simp) rfl

end Cert.Proof.KernelIdeal
-- ==== Proof.Heads.lean ====
/- Stores through a family of disjoint rectangles, and the families the kernel stores through. -/
module

public import proofs.«01_k».proof.Proof.Row

@[expose] public section

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- After one store through each rectangle of a disjoint family every rectangle holds its value. -/
theorem family_ok {κ : Kind} {sp : Space} {s : Shape} {e : EltTy} (v : View sig κ sp s e) (f : v.ty.Contents (Elt F)) {n : ℕ}
    (r : Fin n → Rect s) (w : ∀ h, (r h).shape.Idx → Elt F e) (hs : List (Fin n)) (hall : ∀ h, h ∈ hs)
    (disj : ∀ h h' x x', (r h).emb x = (r h').emb x' → h = h') (h : Fin n) (x : (r h).shape.Idx) :
    v.read (Elt F) (v.writes (Elt F) f (hs.map fun h => ⟨r h, w h⟩)) ((r h).emb x) = w h x := by
  refine read_writes_all v f (fun y u => ∀ h x, y = (r h).emb x → u = w h x) _ ?_ ((r h).emb x) ?_ h x rfl
  · intro p hp x h' x' e
    obtain ⟨h, -, rfl⟩ := List.mem_map.1 hp
    obtain rfl := disj h h' x x' e
    exact congrArg (w h) ((r h).emb.injective e)
  · intro hL
    exact absurd rfl (hL _ (List.mem_map.2 ⟨h, hall h, rfl⟩) x)

/-- The forty heads, the last first. -/
def down40 : List (Fin 40) := [39, 38, 37, 36, 35, 34, 33, 32, 31, 30, 29, 28, 27, 26, 25, 24, 23, 22, 21, 20, 19, 18, 17, 16, 15, 14, 13, 12, 11, 10, 9, 8, 7, 6, 5, 4, 3, 2, 1, 0]
theorem down40_all : ∀ h, h ∈ down40 := by decide
/-- The five groups, the last first. -/
def down5 : List (Fin 5) := [4, 3, 2, 1, 0]
theorem down5_all : ∀ g, g ∈ down5 := by decide

theorem inbA (h : Fin 40) : ∀ a, (![17 * h.val, 0] : Fin 2 → ℕ) a + S14x128.size a ≤ S680x128.size a := by
  intro a; have := h.isLt
  match a with
  | 0 => show 17 * h.val + 14 ≤ 680; omega
  | 1 => show 0 + 128 ≤ 128; omega
theorem inbB (h : Fin 40) : ∀ a, (![17 * h.val, 0] : Fin 2 → ℕ) a + S14x32.size a ≤ S680x128.size a := by
  intro a; have := h.isLt
  match a with
  | 0 => show 17 * h.val + 14 ≤ 680; omega
  | 1 => show 0 + 32 ≤ 128; omega
theorem inbC (h : Fin 40) : ∀ a, (![0, 160 * h.val] : Fin 2 → ℕ) a + S14x160.size a ≤ S14x6400.size a := by
  intro a; have := h.isLt
  match a with
  | 0 => show 0 + 14 ≤ 14; omega
  | 1 => show 160 * h.val + 160 ≤ 6400; omega
theorem inbG (g : Fin 5) : ∀ a, (![g.val, 0, 0] : Fin 3 → ℕ) a + S1x14x160.size a ≤ S5x14x160.size a := by
  intro a; have := g.isLt
  match a with
  | 0 => show g.val + 1 ≤ 5; omega
  | 1 => show 0 + 14 ≤ 14; omega
  | 2 => show 0 + 160 ≤ 160; omega

/-- A head's rows: its first 128 lanes, -/
abbrev rA (h : Fin 40) : Rect S680x128 := Rect.unit (s := S680x128) ![17 * h.val, 0] S14x128.size (inbA h)
/-- and the other 32; -/
abbrev rB (h : Fin 40) : Rect S680x128 := Rect.unit (s := S680x128) ![17 * h.val, 0] S14x32.size (inbB h)
/-- a head's columns; -/
abbrev rC (h : Fin 40) : Rect S14x6400 := Rect.unit (s := S14x6400) ![0, 160 * h.val] S14x160.size (inbC h)
/-- a group's plane. -/
abbrev rG (g : Fin 5) : Rect S5x14x160 := Rect.unit (s := S5x14x160) ![g.val, 0, 0] S1x14x160.size (inbG g)

theorem disjA (h h' : Fin 40) (x : (rA h).shape.Idx) (x' : (rA h').shape.Idx) (e : (rA h).emb x = (rA h').emb x') : h = h' := by
  have e0 : 17 * h.val + 1 * (x 0).val = 17 * h'.val + 1 * (x' 0).val := congrArg (fun j : S680x128.Idx => (j 0).val) e
  have : (x 0).val < 14 := (x 0).isLt
  have : (x' 0).val < 14 := (x' 0).isLt
  exact Fin.ext (by omega)
theorem disjB (h h' : Fin 40) (x : (rB h).shape.Idx) (x' : (rB h').shape.Idx) (e : (rB h).emb x = (rB h').emb x') : h = h' := by
  have e0 : 17 * h.val + 1 * (x 0).val = 17 * h'.val + 1 * (x' 0).val := congrArg (fun j : S680x128.Idx => (j 0).val) e
  have : (x 0).val < 14 := (x 0).isLt
  have : (x' 0).val < 14 := (x' 0).isLt
  exact Fin.ext (by omega)
theorem disjC (h h' : Fin 40) (x : (rC h).shape.Idx) (x' : (rC h').shape.Idx) (e : (rC h).emb x = (rC h').emb x') : h = h' := by
  have e0 : 160 * h.val + 1 * (x 1).val = 160 * h'.val + 1 * (x' 1).val := congrArg (fun j : S14x6400.Idx => (j 1).val) e
  have : (x 1).val < 160 := (x 1).isLt
  have : (x' 1).val < 160 := (x' 1).isLt
  exact Fin.ext (by omega)
theorem disjG (g g' : Fin 5) (x : (rG g).shape.Idx) (x' : (rG g').shape.Idx) (e : (rG g).emb x = (rG g').emb x') : g = g' := by
  have e0 : g.val + 1 * (x 0).val = g'.val + 1 * (x' 0).val := congrArg (fun j : S5x14x160.Idx => (j 0).val) e
  have : (x 0).val < 1 := (x 0).isLt
  have : (x' 0).val < 1 := (x' 0).isLt
  exact Fin.ext (by omega)

/-- A head's columns of the operand. -/
abbrev xHead (c : Dev nD) (fX : Bf (F := F) c sX) (h : Fin 40) : Vec F S14x160 .bf16 := sX.view.readAt (Elt F) (rC h).toLoadRect fX

/-- The query buffers hold the heads. -/
def QaOk (c : Dev nD) (fX : Bf (F := F) c sX) (f : Bf (F := F) c sQa) : Prop := ∀ h x, sQa.view.read (Elt F) f ((rA h).emb x) = k0_pay82 (xHead c fX h) x
def QbOk (c : Dev nD) (fX : Bf (F := F) c sX) (f : Bf (F := F) c sQb) : Prop := ∀ h x, sQb.view.read (Elt F) f ((rB h).emb x) = k0_pay83 (xHead c fX h) x
/-- The parameter buffers hold the planes. -/
def KfOk (c : Dev nD) (fKn : Bf (F := F) c sKn) (f : Bf (F := F) c sKf) : Prop := ∀ g x, sKf.view.read (Elt F) f ((rG g).emb x) = k0_pay209 (sKn.view.readAt (Elt F) (rG g).toLoadRect fKn) x
def VfOk (c : Dev nD) (fVn : Bf (F := F) c sVn) (f : Bf (F := F) c sVf) : Prop := ∀ g x, sVf.view.read (Elt F) f ((rG g).emb x) = k0_pay209 (sVn.view.readAt (Elt F) (rG g).toLoadRect fVn) x
def SfOk (c : Dev nD) (fVs : Bf (F := F) c sVs) (f : Bf (F := F) c sSf) : Prop := ∀ g x, sSf.view.read (Elt F) f ((rG g).emb x) = k0_pay225 (sVs.view.readAt (Elt F) (rG g).toLoadRect fVs) x

end Cert.Proof.KernelIdeal
-- ==== Proof.Enter.lean ====
/- The kernel up to its second loop: the copies started, the first loop, the heads and the parameters spread over the scratch buffers. -/
module

public import proofs.«01_k».proof.Proof.Loop1
public import proofs.«01_k».proof.Proof.Heads

@[expose] public section

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A whole copy lands the source's contents. -/
theorem write_whole (b : Ref sig .tc) (f w : b.ty.Contents (Elt F)) :
    View.write (Elt F) (Memref.whole b : Memref sig .tc _ _ _).view f w Finset.univ = w := by
  funext i
  exact View.write_emb_of_mem (v := (Memref.whole b : Memref sig .tc _ _ _).view) (Val := Elt F) f w (M := Finset.univ) (x := i) (Finset.mem_univ _)

/-- The first loop at the head of a program: every row's copies go from idle to in flight. -/
theorem loop1_run (c : Dev nD) (Q : PUnit → sProp 𝕄) (fLen : Bf (F := F) c hLen) (fK : Bf (F := F) c hK) (fV : Bf (F := F) c hV)
    (dK : Bf (F := F) c sK) (dV : Bf (F := F) c sV) (kk : Unit → Prog (TpuEff nD τ sig (Elt F) Λ₀ .tc) PUnit) :
    iprop(pt c sLen fLen ∗ Ring.AtW (row1 c fLen fK fV dK dV) (st1 0))
      ⊢ (iprop((∀ acc : Unit, (pt c sLen fLen ∗ Ring.AtW (row1 c fLen fK fV dK dV) (st1 14))
          -∗ wp frame (wpE (defs₀ (F := F)) Variants.none (c : Thread nD τ) none) Set.univ (kk acc) Q)
        -∗ wp frame (wpE (defs₀ (F := F)) Variants.none (c : Thread nD τ) none) Set.univ
            (Scf.for k0_t1_loop.lb k0_t1_loop.ub k0_t1_loop.st k0_t1_ok () body1 >>= kk) Q) : sProp 𝕄) := by
  have h := exec_loop (Q := Q) _ _ _ _ _ _ _ _ _ (loop1 c fLen fK fV dK dV) (kk := kk)
  have e : Scf.trips k0_t1_loop.lb k0_t1_loop.ub k0_t1_loop.st = 14 := trips1
  rw [e] at h
  exact h

/-- The first four planes, in the order the stores are listed. -/
def down4 : List (Fin 5) := [3, 2, 1, 0]

/-- What a copy of a cache array's first positions leaves when it has been waited for, and the share of the source it returns. -/
abbrev sinkOutK (c : Dev nD) (fK : Bf (F := F) c hK) (dK : Bf (F := F) c sK) : sProp 𝕄 :=
  iprop((View.loc c.tc (sinkDst sK).view ↦[(sinkDst sK).view.set]{fullShare}
      (sinkDst sK).view.writes (Elt F) dK [⟨Rect.whole S14x800x128, ReadAs.same.apply ((sinkSrc hK).view.read (Elt F) fK)⟩])
    ∗ View.loc c.tc hK.view ↦[(sinkSrc hK).view.set]{Transfers.shareDrop fullShare 14} fK)
@[inherit_doc sinkOutK]
abbrev sinkOutV (c : Dev nD) (fV : Bf (F := F) c hV) (dV : Bf (F := F) c sV) : sProp 𝕄 :=
  iprop((View.loc c.tc (sinkDst sV).view ↦[(sinkDst sV).view.set]{fullShare}
      (sinkDst sV).view.writes (Elt F) dV [⟨Rect.whole S14x800x128, ReadAs.same.apply ((sinkSrc hV).view.read (Elt F) fV)⟩])
    ∗ View.loc c.tc hV.view ↦[(sinkSrc hV).view.set]{Transfers.shareDrop fullShare 14} fV)

/-- The resources once the heads and the first planes of the parameters are spread: the two copies of first positions and
    every row's copies still in flight. -/
abbrev mid (c : Dev nD)
    (fLen : Bf (F := F) c hLen) (fX : Bf (F := F) c hX) (fKn : Bf (F := F) c hKn) (fVn : Bf (F := F) c hVn) (fVs : Bf (F := F) c hVs) (fK : Bf (F := F) c hK) (fV : Bf (F := F) c hV)
    (dK : Bf (F := F) c sK) (dV : Bf (F := F) c sV)
    (fQa : Bf (F := F) c sQa) (fQb : Bf (F := F) c sQb) (fKf : Bf (F := F) c sKf) (fVf : Bf (F := F) c sVf) (fSf : Bf (F := F) c sSf) : sProp 𝕄 :=
  iprop(pt c hLen fLen ∗ pt c hX fX ∗ pt c hKn fKn ∗ pt c hVn fVn ∗ pt c hVs fVs
    ∗ (hK.view.loc c.tc ↦[Finset.univ \ (sinkSrc hK).view.set]{Transfers.shareDrop fullShare 14} fK)
    ∗ (hV.view.loc c.tc ↦[Finset.univ \ (sinkSrc hV).view.set]{Transfers.shareDrop fullShare 14} fV)
    ∗ pt c sLen fLen ∗ pt c sX fX ∗ pt c sKn fKn ∗ pt c sVn fVn ∗ pt c sVs fVs
    ∗ Transfers.Flight (countersEmb (U := Pipeline.UD sig nD τ)) c.tc (.dma ⟨5, by decide⟩) default 89600 (sinkOutK c fK dK)
    ∗ Transfers.Flight (countersEmb (U := Pipeline.UD sig nD τ)) c.tc (.dma ⟨6, by decide⟩) default 44800 (sinkOutV c fV dV)
    ∗ Ring.AtW (row1 c fLen fK fV dK dV) (st1 14)
    ∗ pt c sQa fQa ∗ pt c sQb fQb ∗ pt c sKf fKf ∗ pt c sVf fVf ∗ pt c sSf fSf
    ∗ semVal ((c : Thread nD τ), .dma cc0_scratch18.sem) 0 ∗ semVal ((c : Thread nD τ), .dma ((cc0_scratch19.slice (Rect.unit (s := S4) ![0] S1.size inb_S4_S1_0)).squeeze S_ squeezes_S1_S_).sem) 0 ∗ semVal ((c : Thread nD τ), .dma ((cc0_scratch19.slice (Rect.unit (s := S4) ![1] S1.size inb_S4_S1_1)).squeeze S_ squeezes_S1_S_).sem) 0 ∗ semVal ((c : Thread nD τ), .dma ((cc0_scratch19.slice (Rect.unit (s := S4) ![2] S1.size inb_S4_S1_2)).squeeze S_ squeezes_S1_S_).sem) 0 ∗ semVal ((c : Thread nD τ), .dma ((cc0_scratch19.slice (Rect.unit (s := S4) ![3] S1.size inb_S4_S1_3)).squeeze S_ squeezes_S1_S_).sem) 0
    ∗ ∃ W', owes c.tc 0 W')

/-- The heads, the new keys' parameter and the first four planes of the other two parameters are in place. -/
def midOk (c : Dev nD) (fX : Bf (F := F) c hX) (fKn : Bf (F := F) c hKn) (fVn : Bf (F := F) c hVn) (fVs : Bf (F := F) c hVs)
    (fQa : Bf (F := F) c sQa) (fQb : Bf (F := F) c sQb) (fKf : Bf (F := F) c sKf) (fVf : Bf (F := F) c sVf) (fSf : Bf (F := F) c sSf) : Prop :=
  QaOk c fX fQa ∧ QbOk c fX fQb ∧ KfOk c fKn fKf
    ∧ (∃ d, fVf = sVf.view.writes (Elt F) d (down4.map fun g => ⟨rG g, k0_pay209 (sVn.view.readAt (Elt F) (rG g).toLoadRect fVn)⟩))
    ∧ (∃ d, fSf = sSf.view.writes (Elt F) d (down4.map fun g => ⟨rG g, k0_pay225 (sVs.view.readAt (Elt F) (rG g).toLoadRect fVs)⟩))

set_option maxHeartbeats 4000000 in
/-- The kernel up to its second loop. -/
theorem enter (c : Dev nD) (Q : PUnit → sProp 𝕄) (W : Waits sig Unit)
    (K : FVec F S14x160 .f32 → Prog (TpuEff nD τ sig (Elt F) Λ₀ .tc) PUnit)
    (fLen : Bf (F := F) c hLen) (fX : Bf (F := F) c hX) (fKn : Bf (F := F) c hKn) (fVn : Bf (F := F) c hVn) (fVs : Bf (F := F) c hVs) (fK : Bf (F := F) c hK) (fV : Bf (F := F) c hV)
    (dLen : Bf (F := F) c sLen) (dX : Bf (F := F) c sX) (dKn : Bf (F := F) c sKn) (dVn : Bf (F := F) c sVn) (dVs : Bf (F := F) c sVs) (dK : Bf (F := F) c sK) (dV : Bf (F := F) c sV)
    (dQa : Bf (F := F) c sQa) (dQb : Bf (F := F) c sQb) (dKf : Bf (F := F) c sKf) (dVf : Bf (F := F) c sVf) (dSf : Bf (F := F) c sSf) :
    iprop(pt c hLen fLen ∗ pt c hX fX ∗ pt c hKn fKn ∗ pt c hVn fVn ∗ pt c hVs fVs
      ∗ (hK.view.loc (c : Thread nD τ) ↦{Transfers.shareDrop fullShare 14} fK) ∗ (hV.view.loc (c : Thread nD τ) ↦{Transfers.shareDrop fullShare 14} fV)
      ∗ pt c sLen dLen ∗ pt c sX dX ∗ pt c sKn dKn ∗ pt c sVn dVn ∗ pt c sVs dVs
      ∗ ((sinkDst sK).view.loc (c : Thread nD τ) ↦[(sinkDst sK).view.set]{fullShare} dK) ∗ ((sinkDst sV).view.loc (c : Thread nD τ) ↦[(sinkDst sV).view.set]{fullShare} dV)
      ∗ Ring.AtW (row1 c fLen fK fV dK dV) (st1 0)
      ∗ pt c sQa dQa ∗ pt c sQb dQb ∗ pt c sKf dKf ∗ pt c sVf dVf ∗ pt c sSf dSf
      ∗ semVal ((c : Thread nD τ), .dma cc0_scratch18.sem) 0
      ∗ semVal ((c : Thread nD τ), .dma ((cc0_scratch19.slice (Rect.unit (s := S4) ![0] S1.size inb_S4_S1_0)).squeeze S_ squeezes_S1_S_).sem) 0
      ∗ semVal ((c : Thread nD τ), .dma ((cc0_scratch19.slice (Rect.unit (s := S4) ![1] S1.size inb_S4_S1_1)).squeeze S_ squeezes_S1_S_).sem) 0
      ∗ semVal ((c : Thread nD τ), .dma ((cc0_scratch19.slice (Rect.unit (s := S4) ![2] S1.size inb_S4_S1_2)).squeeze S_ squeezes_S1_S_).sem) 0
      ∗ semVal ((c : Thread nD τ), .dma ((cc0_scratch19.slice (Rect.unit (s := S4) ![3] S1.size inb_S4_S1_3)).squeeze S_ squeezes_S1_S_).sem) 0
      ∗ semVal ((c : Thread nD τ), .dma ((cc0_scratch20.slice (Rect.unit (s := S2) ![0] S1.size inb_S2_S1_0)).squeeze S_ squeezes_S1_S_).sem) 0
      ∗ semVal ((c : Thread nD τ), .dma ((cc0_scratch20.slice (Rect.unit (s := S2) ![1] S1.size inb_S2_S1_1)).squeeze S_ squeezes_S1_S_).sem) 0
      ∗ owes (c : Thread nD τ) 0 W
      ∗ (∀ fQa fQb fKf fVf fSf, ⌜midOk c fX fKn fVn fVs fQa fQb fKf fVf fSf⌝ -∗ mid c fLen fX fKn fVn fVs fK fV dK dV fQa fQb fKf fVf fSf
        -∗ wp frame (wpE (defs₀ (F := F)) Variants.none (c : Thread nD τ) none) Set.univ (K (k0_pay223 (sVn.view.readAt (Elt F) (rG 4).toLoadRect fVn))) Q))
      ⊢ wp frame (wpE (defs₀ (F := F)) Variants.none (c : Thread nD τ) none) Set.univ (do
      k0_part14 hLen (Memref.isWhole_whole _) hX (Memref.isWhole_whole _) hKn (Memref.isWhole_whole _) hVn (Memref.isWhole_whole _) hVs (Memref.isWhole_whole _) hK (Memref.isWhole_whole _) hV (Memref.isWhole_whole _) hO (Memref.isWhole_whole _) hC (Memref.isWhole_whole _) sLen (Memref.isWhole_whole _) sX (Memref.isWhole_whole _) sKn (Memref.isWhole_whole _) sVn (Memref.isWhole_whole _) sVs (Memref.isWhole_whole _) sK (Memref.isWhole_whole _) sV (Memref.isWhole_whole _) sQa (Memref.isWhole_whole _) sQb (Memref.isWhole_whole _) sKf (Memref.isWhole_whole _) sVf (Memref.isWhole_whole _) sSf (Memref.isWhole_whole _) sOa (Memref.isWhole_whole _) sOb (Memref.isWhole_whole _) sCa (Memref.isWhole_whole _) sCb (Memref.isWhole_whole _) sO (Memref.isWhole_whole _) sC (Memref.isWhole_whole _) cc0_scratch18 cc0_scratch19 cc0_scratch20 cc0_scratch21 cc0_scratch22 cc0_scratch23
      k0_part15 hLen (Memref.isWhole_whole _) hX (Memref.isWhole_whole _) hKn (Memref.isWhole_whole _) hVn (Memref.isWhole_whole _) hVs (Memref.isWhole_whole _) hK (Memref.isWhole_whole _) hV (Memref.isWhole_whole _) hO (Memref.isWhole_whole _) hC (Memref.isWhole_whole _) sLen (Memref.isWhole_whole _) sX (Memref.isWhole_whole _) sKn (Memref.isWhole_whole _) sVn (Memref.isWhole_whole _) sVs (Memref.isWhole_whole _) sK (Memref.isWhole_whole _) sV (Memref.isWhole_whole _) sQa (Memref.isWhole_whole _) sQb (Memref.isWhole_whole _) sKf (Memref.isWhole_whole _) sVf (Memref.isWhole_whole _) sSf (Memref.isWhole_whole _) sOa (Memref.isWhole_whole _) sOb (Memref.isWhole_whole _) sCa (Memref.isWhole_whole _) sCb (Memref.isWhole_whole _) sO (Memref.isWhole_whole _) sC (Memref.isWhole_whole _) cc0_scratch18 cc0_scratch19 cc0_scratch20 cc0_scratch21 cc0_scratch22 cc0_scratch23
      let ⟨v86, v87, v88⟩ : Σ' (v86 : FVec F S14x160 .f32) (v87 : FVec F S14x128 .f32), Vec F S14x128 .f32 ← k0_part16 hLen (Memref.isWhole_whole _) hX (Memref.isWhole_whole _) hKn (Memref.isWhole_whole _) hVn (Memref.isWhole_whole _) hVs (Memref.isWhole_whole _) hK (Memref.isWhole_whole _) hV (Memref.isWhole_whole _) hO (Memref.isWhole_whole _) hC (Memref.isWhole_whole _) sLen (Memref.isWhole_whole _) sX (Memref.isWhole_whole _) sKn (Memref.isWhole_whole _) sVn (Memref.isWhole_whole _) sVs (Memref.isWhole_whole _) sK (Memref.isWhole_whole _) sV (Memref.isWhole_whole _) sQa (Memref.isWhole_whole _) sQb (Memref.isWhole_whole _) sKf (Memref.isWhole_whole _) sVf (Memref.isWhole_whole _) sSf (Memref.isWhole_whole _) sOa (Memref.isWhole_whole _) sOb (Memref.isWhole_whole _) sCa (Memref.isWhole_whole _) sCb (Memref.isWhole_whole _) sO (Memref.isWhole_whole _) sC (Memref.isWhole_whole _) cc0_scratch18 cc0_scratch19 cc0_scratch20 cc0_scratch21 cc0_scratch22 cc0_scratch23
      let v121 : FVec F S14x32 .f32 ← k0_part17 hLen (Memref.isWhole_whole _) hX (Memref.isWhole_whole _) hKn (Memref.isWhole_whole _) hVn (Memref.isWhole_whole _) hVs (Memref.isWhole_whole _) hK (Memref.isWhole_whole _) hV (Memref.isWhole_whole _) hO (Memref.isWhole_whole _) hC (Memref.isWhole_whole _) sLen (Memref.isWhole_whole _) sX (Memref.isWhole_whole _) sKn (Memref.isWhole_whole _) sVn (Memref.isWhole_whole _) sVs (Memref.isWhole_whole _) sK (Memref.isWhole_whole _) sV (Memref.isWhole_whole _) sQa (Memref.isWhole_whole _) sQb (Memref.isWhole_whole _) sKf (Memref.isWhole_whole _) sVf (Memref.isWhole_whole _) sSf (Memref.isWhole_whole _) sOa (Memref.isWhole_whole _) sOb (Memref.isWhole_whole _) sCa (Memref.isWhole_whole _) sCb (Memref.isWhole_whole _) sO (Memref.isWhole_whole _) sC (Memref.isWhole_whole _) cc0_scratch18 cc0_scratch19 cc0_scratch20 cc0_scratch21 cc0_scratch22 cc0_scratch23 v86 v87 v88
      k0_part18 hLen (Memref.isWhole_whole _) hX (Memref.isWhole_whole _) hKn (Memref.isWhole_whole _) hVn (Memref.isWhole_whole _) hVs (Memref.isWhole_whole _) hK (Memref.isWhole_whole _) hV (Memref.isWhole_whole _) hO (Memref.isWhole_whole _) hC (Memref.isWhole_whole _) sLen (Memref.isWhole_whole _) sX (Memref.isWhole_whole _) sKn (Memref.isWhole_whole _) sVn (Memref.isWhole_whole _) sVs (Memref.isWhole_whole _) sK (Memref.isWhole_whole _) sV (Memref.isWhole_whole _) sQa (Memref.isWhole_whole _) sQb (Memref.isWhole_whole _) sKf (Memref.isWhole_whole _) sVf (Memref.isWhole_whole _) sSf (Memref.isWhole_whole _) sOa (Memref.isWhole_whole _) sOb (Memref.isWhole_whole _) sCa (Memref.isWhole_whole _) sCb (Memref.isWhole_whole _) sO (Memref.isWhole_whole _) sC (Memref.isWhole_whole _) cc0_scratch18 cc0_scratch19 cc0_scratch20 cc0_scratch21 cc0_scratch22 cc0_scratch23 v121
      let ⟨v186, v187, v188⟩ : Σ' (v186 : FVec F S14x160 .f32) (v187 : FVec F S14x128 .f32), Vec F S14x128 .f32 ← k0_part19 hLen (Memref.isWhole_whole _) hX (Memref.isWhole_whole _) hKn (Memref.isWhole_whole _) hVn (Memref.isWhole_whole _) hVs (Memref.isWhole_whole _) hK (Memref.isWhole_whole _) hV (Memref.isWhole_whole _) hO (Memref.isWhole_whole _) hC (Memref.isWhole_whole _) sLen (Memref.isWhole_whole _) sX (Memref.isWhole_whole _) sKn (Memref.isWhole_whole _) sVn (Memref.isWhole_whole _) sVs (Memref.isWhole_whole _) sK (Memref.isWhole_whole _) sV (Memref.isWhole_whole _) sQa (Memref.isWhole_whole _) sQb (Memref.isWhole_whole _) sKf (Memref.isWhole_whole _) sVf (Memref.isWhole_whole _) sSf (Memref.isWhole_whole _) sOa (Memref.isWhole_whole _) sOb (Memref.isWhole_whole _) sCa (Memref.isWhole_whole _) sCb (Memref.isWhole_whole _) sO (Memref.isWhole_whole _) sC (Memref.isWhole_whole _) cc0_scratch18 cc0_scratch19 cc0_scratch20 cc0_scratch21 cc0_scratch22 cc0_scratch23
      let v221 : FVec F S14x32 .f32 ← k0_part20 hLen (Memref.isWhole_whole _) hX (Memref.isWhole_whole _) hKn (Memref.isWhole_whole _) hVn (Memref.isWhole_whole _) hVs (Memref.isWhole_whole _) hK (Memref.isWhole_whole _) hV (Memref.isWhole_whole _) hO (Memref.isWhole_whole _) hC (Memref.isWhole_whole _) sLen (Memref.isWhole_whole _) sX (Memref.isWhole_whole _) sKn (Memref.isWhole_whole _) sVn (Memref.isWhole_whole _) sVs (Memref.isWhole_whole _) sK (Memref.isWhole_whole _) sV (Memref.isWhole_whole _) sQa (Memref.isWhole_whole _) sQb (Memref.isWhole_whole _) sKf (Memref.isWhole_whole _) sVf (Memref.isWhole_whole _) sSf (Memref.isWhole_whole _) sOa (Memref.isWhole_whole _) sOb (Memref.isWhole_whole _) sCa (Memref.isWhole_whole _) sCb (Memref.isWhole_whole _) sO (Memref.isWhole_whole _) sC (Memref.isWhole_whole _) cc0_scratch18 cc0_scratch19 cc0_scratch20 cc0_scratch21 cc0_scratch22 cc0_scratch23 v186 v187 v188
      k0_part21 hLen (Memref.isWhole_whole _) hX (Memref.isWhole_whole _) hKn (Memref.isWhole_whole _) hVn (Memref.isWhole_whole _) hVs (Memref.isWhole_whole _) hK (Memref.isWhole_whole _) hV (Memref.isWhole_whole _) hO (Memref.isWhole_whole _) hC (Memref.isWhole_whole _) sLen (Memref.isWhole_whole _) sX (Memref.isWhole_whole _) sKn (Memref.isWhole_whole _) sVn (Memref.isWhole_whole _) sVs (Memref.isWhole_whole _) sK (Memref.isWhole_whole _) sV (Memref.isWhole_whole _) sQa (Memref.isWhole_whole _) sQb (Memref.isWhole_whole _) sKf (Memref.isWhole_whole _) sVf (Memref.isWhole_whole _) sSf (Memref.isWhole_whole _) sOa (Memref.isWhole_whole _) sOb (Memref.isWhole_whole _) sCa (Memref.isWhole_whole _) sCb (Memref.isWhole_whole _) sO (Memref.isWhole_whole _) sC (Memref.isWhole_whole _) cc0_scratch18 cc0_scratch19 cc0_scratch20 cc0_scratch21 cc0_scratch22 cc0_scratch23 v221
      let ⟨v286, v287, v288⟩ : Σ' (v286 : FVec F S14x160 .f32) (v287 : FVec F S14x128 .f32), Vec F S14x128 .f32 ← k0_part22 hLen (Memref.isWhole_whole _) hX (Memref.isWhole_whole _) hKn (Memref.isWhole_whole _) hVn (Memref.isWhole_whole _) hVs (Memref.isWhole_whole _) hK (Memref.isWhole_whole _) hV (Memref.isWhole_whole _) hO (Memref.isWhole_whole _) hC (Memref.isWhole_whole _) sLen (Memref.isWhole_whole _) sX (Memref.isWhole_whole _) sKn (Memref.isWhole_whole _) sVn (Memref.isWhole_whole _) sVs (Memref.isWhole_whole _) sK (Memref.isWhole_whole _) sV (Memref.isWhole_whole _) sQa (Memref.isWhole_whole _) sQb (Memref.isWhole_whole _) sKf (Memref.isWhole_whole _) sVf (Memref.isWhole_whole _) sSf (Memref.isWhole_whole _) sOa (Memref.isWhole_whole _) sOb (Memref.isWhole_whole _) sCa (Memref.isWhole_whole _) sCb (Memref.isWhole_whole _) sO (Memref.isWhole_whole _) sC (Memref.isWhole_whole _) cc0_scratch18 cc0_scratch19 cc0_scratch20 cc0_scratch21 cc0_scratch22 cc0_scratch23
      let v321 : FVec F S14x32 .f32 ← k0_part23 hLen (Memref.isWhole_whole _) hX (Memref.isWhole_whole _) hKn (Memref.isWhole_whole _) hVn (Memref.isWhole_whole _) hVs (Memref.isWhole_whole _) hK (Memref.isWhole_whole _) hV (Memref.isWhole_whole _) hO (Memref.isWhole_whole _) hC (Memref.isWhole_whole _) sLen (Memref.isWhole_whole _) sX (Memref.isWhole_whole _) sKn (Memref.isWhole_whole _) sVn (Memref.isWhole_whole _) sVs (Memref.isWhole_whole _) sK (Memref.isWhole_whole _) sV (Memref.isWhole_whole _) sQa (Memref.isWhole_whole _) sQb (Memref.isWhole_whole _) sKf (Memref.isWhole_whole _) sVf (Memref.isWhole_whole _) sSf (Memref.isWhole_whole _) sOa (Memref.isWhole_whole _) sOb (Memref.isWhole_whole _) sCa (Memref.isWhole_whole _) sCb (Memref.isWhole_whole _) sO (Memref.isWhole_whole _) sC (Memref.isWhole_whole _) cc0_scratch18 cc0_scratch19 cc0_scratch20 cc0_scratch21 cc0_scratch22 cc0_scratch23 v286 v287 v288
      k0_part24 hLen (Memref.isWhole_whole _) hX (Memref.isWhole_whole _) hKn (Memref.isWhole_whole _) hVn (Memref.isWhole_whole _) hVs (Memref.isWhole_whole _) hK (Memref.isWhole_whole _) hV (Memref.isWhole_whole _) hO (Memref.isWhole_whole _) hC (Memref.isWhole_whole _) sLen (Memref.isWhole_whole _) sX (Memref.isWhole_whole _) sKn (Memref.isWhole_whole _) sVn (Memref.isWhole_whole _) sVs (Memref.isWhole_whole _) sK (Memref.isWhole_whole _) sV (Memref.isWhole_whole _) sQa (Memref.isWhole_whole _) sQb (Memref.isWhole_whole _) sKf (Memref.isWhole_whole _) sVf (Memref.isWhole_whole _) sSf (Memref.isWhole_whole _) sOa (Memref.isWhole_whole _) sOb (Memref.isWhole_whole _) sCa (Memref.isWhole_whole _) sCb (Memref.isWhole_whole _) sO (Memref.isWhole_whole _) sC (Memref.isWhole_whole _) cc0_scratch18 cc0_scratch19 cc0_scratch20 cc0_scratch21 cc0_scratch22 cc0_scratch23 v321
      let ⟨v386, v387, v388⟩ : Σ' (v386 : FVec F S14x160 .f32) (v387 : FVec F S14x128 .f32), Vec F S14x128 .f32 ← k0_part25 hLen (Memref.isWhole_whole _) hX (Memref.isWhole_whole _) hKn (Memref.isWhole_whole _) hVn (Memref.isWhole_whole _) hVs (Memref.isWhole_whole _) hK (Memref.isWhole_whole _) hV (Memref.isWhole_whole _) hO (Memref.isWhole_whole _) hC (Memref.isWhole_whole _) sLen (Memref.isWhole_whole _) sX (Memref.isWhole_whole _) sKn (Memref.isWhole_whole _) sVn (Memref.isWhole_whole _) sVs (Memref.isWhole_whole _) sK (Memref.isWhole_whole _) sV (Memref.isWhole_whole _) sQa (Memref.isWhole_whole _) sQb (Memref.isWhole_whole _) sKf (Memref.isWhole_whole _) sVf (Memref.isWhole_whole _) sSf (Memref.isWhole_whole _) sOa (Memref.isWhole_whole _) sOb (Memref.isWhole_whole _) sCa (Memref.isWhole_whole _) sCb (Memref.isWhole_whole _) sO (Memref.isWhole_whole _) sC (Memref.isWhole_whole _) cc0_scratch18 cc0_scratch19 cc0_scratch20 cc0_scratch21 cc0_scratch22 cc0_scratch23
      let v421 : FVec F S14x32 .f32 ← k0_part26 hLen (Memref.isWhole_whole _) hX (Memref.isWhole_whole _) hKn (Memref.isWhole_whole _) hVn (Memref.isWhole_whole _) hVs (Memref.isWhole_whole _) hK (Memref.isWhole_whole _) hV (Memref.isWhole_whole _) hO (Memref.isWhole_whole _) hC (Memref.isWhole_whole _) sLen (Memref.isWhole_whole _) sX (Memref.isWhole_whole _) sKn (Memref.isWhole_whole _) sVn (Memref.isWhole_whole _) sVs (Memref.isWhole_whole _) sK (Memref.isWhole_whole _) sV (Memref.isWhole_whole _) sQa (Memref.isWhole_whole _) sQb (Memref.isWhole_whole _) sKf (Memref.isWhole_whole _) sVf (Memref.isWhole_whole _) sSf (Memref.isWhole_whole _) sOa (Memref.isWhole_whole _) sOb (Memref.isWhole_whole _) sCa (Memref.isWhole_whole _) sCb (Memref.isWhole_whole _) sO (Memref.isWhole_whole _) sC (Memref.isWhole_whole _) cc0_scratch18 cc0_scratch19 cc0_scratch20 cc0_scratch21 cc0_scratch22 cc0_scratch23 v386 v387 v388
      let v449 : FVec F S14x160 .bf16 ← k0_part27 hLen (Memref.isWhole_whole _) hX (Memref.isWhole_whole _) hKn (Memref.isWhole_whole _) hVn (Memref.isWhole_whole _) hVs (Memref.isWhole_whole _) hK (Memref.isWhole_whole _) hV (Memref.isWhole_whole _) hO (Memref.isWhole_whole _) hC (Memref.isWhole_whole _) sLen (Memref.isWhole_whole _) sX (Memref.isWhole_whole _) sKn (Memref.isWhole_whole _) sVn (Memref.isWhole_whole _) sVs (Memref.isWhole_whole _) sK (Memref.isWhole_whole _) sV (Memref.isWhole_whole _) sQa (Memref.isWhole_whole _) sQb (Memref.isWhole_whole _) sKf (Memref.isWhole_whole _) sVf (Memref.isWhole_whole _) sSf (Memref.isWhole_whole _) sOa (Memref.isWhole_whole _) sOb (Memref.isWhole_whole _) sCa (Memref.isWhole_whole _) sCb (Memref.isWhole_whole _) sO (Memref.isWhole_whole _) sC (Memref.isWhole_whole _) cc0_scratch18 cc0_scratch19 cc0_scratch20 cc0_scratch21 cc0_scratch22 cc0_scratch23 v421
      k0_part28 hLen (Memref.isWhole_whole _) hX (Memref.isWhole_whole _) hKn (Memref.isWhole_whole _) hVn (Memref.isWhole_whole _) hVs (Memref.isWhole_whole _) hK (Memref.isWhole_whole _) hV (Memref.isWhole_whole _) hO (Memref.isWhole_whole _) hC (Memref.isWhole_whole _) sLen (Memref.isWhole_whole _) sX (Memref.isWhole_whole _) sKn (Memref.isWhole_whole _) sVn (Memref.isWhole_whole _) sVs (Memref.isWhole_whole _) sK (Memref.isWhole_whole _) sV (Memref.isWhole_whole _) sQa (Memref.isWhole_whole _) sQb (Memref.isWhole_whole _) sKf (Memref.isWhole_whole _) sVf (Memref.isWhole_whole _) sSf (Memref.isWhole_whole _) sOa (Memref.isWhole_whole _) sOb (Memref.isWhole_whole _) sCa (Memref.isWhole_whole _) sCb (Memref.isWhole_whole _) sO (Memref.isWhole_whole _) sC (Memref.isWhole_whole _) cc0_scratch18 cc0_scratch19 cc0_scratch20 cc0_scratch21 cc0_scratch22 cc0_scratch23 v449
      let v501 : FVec F S14x160 .f32 ← k0_part29 hLen (Memref.isWhole_whole _) hX (Memref.isWhole_whole _) hKn (Memref.isWhole_whole _) hVn (Memref.isWhole_whole _) hVs (Memref.isWhole_whole _) hK (Memref.isWhole_whole _) hV (Memref.isWhole_whole _) hO (Memref.isWhole_whole _) hC (Memref.isWhole_whole _) sLen (Memref.isWhole_whole _) sX (Memref.isWhole_whole _) sKn (Memref.isWhole_whole _) sVn (Memref.isWhole_whole _) sVs (Memref.isWhole_whole _) sK (Memref.isWhole_whole _) sV (Memref.isWhole_whole _) sQa (Memref.isWhole_whole _) sQb (Memref.isWhole_whole _) sKf (Memref.isWhole_whole _) sVf (Memref.isWhole_whole _) sSf (Memref.isWhole_whole _) sOa (Memref.isWhole_whole _) sOb (Memref.isWhole_whole _) sCa (Memref.isWhole_whole _) sCb (Memref.isWhole_whole _) sO (Memref.isWhole_whole _) sC (Memref.isWhole_whole _) cc0_scratch18 cc0_scratch19 cc0_scratch20 cc0_scratch21 cc0_scratch22 cc0_scratch23
      K v501) Q := by
  rw [k0_part14_eq_skeleton]
  unfold k0_part14_skel
  iintro ⟨HaL, HaX, HaKn, HaVn, HaVs, HaK, HaV, HL, HX, HKn, HVn, HVs, HdK, HdV, HR, HQa, HQb, HKf, HVf, HSf, HsL, Hs0, Hs1, Hs2, Hs3, Hk0, Hk1, HW, HK⟩
  sl_exec
  have eL : View.write (Elt F) sLen.view dLen (enter.sl.dma0 c fLen) Finset.univ = fLen := write_whole _ _ _
  have eX : View.write (Elt F) sX.view dX (enter.sl.dma0_1 c fX) Finset.univ = fX := write_whole _ _ _
  have eKn : View.write (Elt F) sKn.view dKn (enter.sl.dma0_2 c fKn) Finset.univ = fKn := write_whole _ _ _
  have eVn : View.write (Elt F) sVn.view dVn (enter.sl.dma0_3 c fVn) Finset.univ = fVn := write_whole _ _ _
  have eVs : View.write (Elt F) sVs.view dVs (enter.sl.dma0_4 c fVs) Finset.univ = fVs := write_whole _ _ _
  rw [eL, eX, eKn, eVn, eVs]
  rw [bind_assoc]
  iapply (loop1_run c Q fLen fK fV dK dV _) $$ [HL HR]
  · isplitl [HL]
    · iexact HL
    · iexact HR
  iintro %acc HLR
  icases HLR with ⟨HL, HR⟩
  sl_exec
  ispecialize HK $$ %_ %_ %_ %_ %_
  iapply HK $$ [] [HaL HaX HaKn HaVn HaVs HaK HaV HL HX HKn HVn HVs HR HQa HQb HKf HVf HSf HsL Hs0 Hs1 Hs2 Hs3 Hk0 Hk1 HW]
  rotate_left
  · isplitl [HaL]; · iexact HaL
    isplitl [HaX]; · iexact HaX
    isplitl [HaKn]; · iexact HaKn
    isplitl [HaVn]; · iexact HaVn
    isplitl [HaVs]; · iexact HaVs
    isplitl [HaK]; · iexact HaK
    isplitl [HaV]; · iexact HaV
    isplitl [HL]; · iexact HL
    isplitl [HX]; · iexact HX
    isplitl [HKn]; · iexact HKn
    isplitl [HVn]; · iexact HVn
    isplitl [HVs]; · iexact HVs
    isplitl [Hk0]; · iexact Hk0
    isplitl [Hk1]; · iexact Hk1
    isplitl [HR]; · iexact HR
    isplitl [HQa]; · iexact HQa
    isplitl [HQb]; · iexact HQb
    isplitl [HKf]; · iexact HKf
    isplitl [HVf]; · iexact HVf
    isplitl [HSf]; · iexact HSf
    isplitl [HsL]; · iexact HsL
    isplitl [Hs0]; · iexact Hs0
    isplitl [Hs1]; · iexact Hs1
    isplitl [Hs2]; · iexact Hs2
    isplitl [Hs3]; · iexact Hs3
    iexists _; iexact HW
  · ipureintro
    exact ⟨family_ok sQa.view dQa rA (fun h => k0_pay82 (xHead c fX h)) down40 down40_all disjA,
      family_ok sQb.view dQb rB (fun h => k0_pay83 (xHead c fX h)) down40 down40_all disjB,
      family_ok sKf.view dKf rG (fun g => k0_pay209 (sKn.view.readAt (Elt F) (rG g).toLoadRect fKn)) down5 down5_all disjG,
      ⟨dVf, rfl⟩, ⟨dSf, rfl⟩⟩
end Cert.Proof.KernelIdeal
-- ==== Proof.Loop2.lean ====
/- The second loop: each trip waits for one row's windows and computes the row's attention. -/
module

public import proofs.«01_k».proof.Proof.Loop1
public import proofs.«01_k».proof.Proof.Row

@[expose] public section

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev body2 (v501 : FVec F S14x160 .f32) (v518 : IVec S8x1280 32) (k : Row) (a : Unit) := Gen.k0_t2_body (F := F) hLen (Memref.isWhole_whole _) hX (Memref.isWhole_whole _) hKn (Memref.isWhole_whole _) hVn (Memref.isWhole_whole _) hVs (Memref.isWhole_whole _) hK (Memref.isWhole_whole _) hV (Memref.isWhole_whole _) hO (Memref.isWhole_whole _) hC (Memref.isWhole_whole _) sLen (Memref.isWhole_whole _) sX (Memref.isWhole_whole _) sKn (Memref.isWhole_whole _) sVn (Memref.isWhole_whole _) sVs (Memref.isWhole_whole _) sK (Memref.isWhole_whole _) sV (Memref.isWhole_whole _) sQa (Memref.isWhole_whole _) sQb (Memref.isWhole_whole _) sKf (Memref.isWhole_whole _) sVf (Memref.isWhole_whole _) sSf (Memref.isWhole_whole _) sOa (Memref.isWhole_whole _) sOb (Memref.isWhole_whole _) sCa (Memref.isWhole_whole _) sCb (Memref.isWhole_whole _) sO (Memref.isWhole_whole _) sC (Memref.isWhole_whole _) cc0_scratch18 cc0_scratch19 cc0_scratch20 cc0_scratch21 cc0_scratch22 cc0_scratch23 v501 v518 k a

/-- Row `k` of a staged cache. -/
theorem rowInb (k : Row) : ∀ a, (![k.val, 0, 0] : Fin 3 → ℕ) a + (![1, 800, 1280] : Fin 3 → ℕ) a ≤ S14x800x1280.size a := by
  have : k.val < 14 := trips1 ▸ k.isLt
  intro a
  match a with
  | 0 => simp; omega
  | 1 => simp
  | 2 => simp
abbrev rowOf {e : EltTy} (M : Memref sig .tc .vmem S14x800x1280 e) (k : Row) : Memref sig .tc .vmem ⟨3, ![1, 800, 1280]⟩ e :=
  M.slice (Rect.unit (s := S14x800x1280) ![k.val, 0, 0] ![1, 800, 1280] (rowInb k)) (fun _ => rfl)

theorem rowOf_set (k : Row) : (Rect.unit (s := S14x800x1280) ![k.val, 0, 0] ![1, 800, 1280] (rowInb k)).set = rowSet k := by
  ext i
  rw [Rect.mem_set_unit]
  simp only [rowSet, Finset.mem_filter, Finset.mem_univ, true_and]
  constructor
  · intro h
    have h0 := h 0
    simp at h0
    omega
  · intro h0 a
    match a with
    | 0 => simp; omega
    | 1 => have : (i 1).val < 800 := (i 1).isLt; simp; omega
    | 2 => have : (i 2).val < 1280 := (i 2).isLt; simp; omega
theorem rowK_set (k : Row) : (rowOf sK k).view.set = rowSet k := (View.set_slice_whole _ _).trans (rowOf_set k)
theorem rowV_set (k : Row) : (rowOf sV k).view.set = rowSet k := (View.set_slice_whole _ _).trans (rowOf_set k)

instance closedOff12 (k : Row) : ClosedOff (k0_off12 k) := ⟨![k.val, 0, 0], off12_eq k⟩
instance closedOff14 (k : Row) : ClosedOff (k0_off14 k) := ⟨![k.val, 160, 0], off14_eq k⟩
instance closedOff16 (k : Row) : ClosedOff (k0_off16 k) := ⟨![k.val, 320, 0], off16_eq k⟩
instance closedOff18 (k : Row) : ClosedOff (k0_off18 k) := ⟨![k.val, 480, 0], off18_eq k⟩
instance closedOff20 (k : Row) : ClosedOff (k0_off20 k) := ⟨![k.val, 640, 0], off20_eq k⟩

variable (c : Dev nD) (fLen : Bf (F := F) c sLen) (fK : Bf (F := F) c hK) (fV : Bf (F := F) c hV)

/-- A row in the second loop: its copies under way and its last positions landed, -/
def row2 (k : Row) : Bool → sProp 𝕄
  | false => iprop(busyK c fLen fK k ∗ busyV c fLen fV k
      ∗ (sK.view.loc (c : Thread nD τ) ↦[tailSet k]{fullShare} staged fK fLen)
      ∗ (sV.view.loc (c : Thread nD τ) ↦[tailSet k]{fullShare} staged fV fLen))
  | true => iprop(semVal ((c : Thread nD τ), kCell k) 0 ∗ semVal ((c : Thread nD τ), vCell k) 0
      ∗ (hK.view.loc (c : Thread nD τ) ↦{tok k} fK) ∗ (hV.view.loc (c : Thread nD τ) ↦{tok k} fV)
      ∗ (sK.view.loc (c : Thread nD τ) ↦[rowSet k]{fullShare} staged fK fLen)
      ∗ (sV.view.loc (c : Thread nD τ) ↦[rowSet k]{fullShare} staged fV fLen))

/-- A row's window and its last positions make the row. -/
theorem joinK (k : Row) :
    (iprop((sK.view.loc (c : Thread nD τ) ↦[winSet k]{fullShare} staged fK fLen)
      ∗ (sK.view.loc (c : Thread nD τ) ↦[tailSet k]{fullShare} staged fK fLen)) : sProp 𝕄)
      ⊢ iprop((rowOf sK k).view.loc (c : Thread nD τ) ↦[(rowOf sK k).view.set]{fullShare} staged fK fLen) := by
  rw [rowK_set, ← win_union_tail]
  exact (pointsTo_union (win_tail_disjoint k)).2
theorem joinV (k : Row) :
    (iprop((sV.view.loc (c : Thread nD τ) ↦[winSet k]{fullShare} staged fV fLen)
      ∗ (sV.view.loc (c : Thread nD τ) ↦[tailSet k]{fullShare} staged fV fLen)) : sProp 𝕄)
      ⊢ iprop((rowOf sV k).view.loc (c : Thread nD τ) ↦[(rowOf sV k).view.set]{fullShare} staged fV fLen) := by
  rw [rowV_set, ← win_union_tail]
  exact (pointsTo_union (win_tail_disjoint k)).2

theorem rowK_eq (k : Row) : ((rowOf sK k).view.loc (c : Thread nD τ) ↦[(rowOf sK k).view.set]{fullShare} staged fK fLen : sProp 𝕄)
    = (sK.view.loc (c : Thread nD τ) ↦[rowSet k]{fullShare} staged fK fLen) := by rw [rowK_set]
theorem rowV_eq (k : Row) : ((rowOf sV k).view.loc (c : Thread nD τ) ↦[(rowOf sV k).view.set]{fullShare} staged fV fLen : sProp 𝕄)
    = (sV.view.loc (c : Thread nD τ) ↦[rowSet k]{fullShare} staged fV fLen) := by rw [rowV_set]

/-- The positions a batch row sees. -/
def mask (v518 : IVec S8x1280 32) (w : BitVec 32) : IVec S8x1280 1 := k0_pay2 (F := F) v518 w (k0_pay1 v518) w 1024#32

theorem off10_0 (k : Row) : k0_off10 k 0#32 = ![136 * ((0 : Fin 5) : ℕ) + k.val, 0] := off10_eq k 0
theorem off10_1 (k : Row) : k0_off10 k 136#32 = ![136 * ((1 : Fin 5) : ℕ) + k.val, 0] := off10_eq k 1
theorem off10_2 (k : Row) : k0_off10 k 272#32 = ![136 * ((2 : Fin 5) : ℕ) + k.val, 0] := off10_eq k 2
theorem off10_3 (k : Row) : k0_off10 k 408#32 = ![136 * ((3 : Fin 5) : ℕ) + k.val, 0] := off10_eq k 3
theorem off10_4 (k : Row) : k0_off10 k 544#32 = ![136 * ((4 : Fin 5) : ℕ) + k.val, 0] := off10_eq k 4

section Loop
variable (v501 : FVec F S14x160 .f32) (v518 : IVec S8x1280 32)
    (fQa : Bf (F := F) c sQa) (fQb : Bf (F := F) c sQb) (fKf : Bf (F := F) c sKf) (fVf : Bf (F := F) c sVf) (fSf : Bf (F := F) c sSf)

/-- A batch row's attention over the cache, for a group of heads, -/
def gC (k : Row) (g : Fin 5) : FVec F S8x160 .f32 :=
  rowC (mask (F := F) v518 (lenW c fLen k)) (qrow fQa k g) (qrow fQb k g) (kvRow fKf k g) (blk (staged fK fLen) k g) (blk (staged fV fLen) k g) (kvRow fSf k g)
/-- and with the new position. -/
def gO (k : Row) (g : Fin 5) : FVec F S8x160 .f32 :=
  rowO (mask (F := F) v518 (lenW c fLen k)) (qrow fQa k g) (qrow fQb k g) (kvRow fKf k g) (blk (staged fK fLen) k g) (blk (staged fV fLen) k g) (kvRow fSf k g) (kvRow fVf k g)

/-- The output buffers after `n` trips. -/
def outs (n : ℕ) : sProp 𝕄 :=
  iprop(∃ fOa : Bf (F := F) c sOa, ∃ fOb : Bf (F := F) c sOb, ∃ fCa : Bf (F := F) c sCa, ∃ fCb : Bf (F := F) c sCb,
    pt c sOa fOa ∗ pt c sOb fOb ∗ pt c sCa fCa ∗ pt c sCb fCb
    ∗ ⌜Out5 fOa (fun k g => headL (gO c fLen fK fV v518 fQa fQb fKf fVf fSf k g)) n
      ∧ Out5 fOb (fun k g => tailL (gO c fLen fK fV v518 fQa fQb fKf fVf fSf k g)) n
      ∧ Out5 fCa (fun k g => headL (gC c fLen fK fV v518 fQa fQb fKf fSf k g)) n
      ∧ Out5 fCb (fun k g => tailL (gC c fLen fK fV v518 fQa fQb fKf fSf k g)) n⌝)

/-- What the second loop only reads. -/
def reads : sProp 𝕄 := iprop(pt c sLen fLen ∗ pt c sQa fQa ∗ pt c sQb fQb ∗ pt c sKf fKf ∗ pt c sVf fVf ∗ pt c sSf fSf)

set_option maxHeartbeats 1000000 in
/-- One trip computes its row. -/
theorem trip2 (k : Row) (Q : Unit → sProp 𝕄) :
    iprop(reads c fLen fQa fQb fKf fVf fSf ∗ row2 c fLen fK fV k false ∗ (∃ W : Waits sig Unit, owes (c : Thread nD τ) 0 W)
      ∗ outs c fLen fK fV v518 fQa fQb fKf fVf fSf k.val
      ∗ (reads c fLen fQa fQb fKf fVf fSf -∗ row2 c fLen fK fV k true -∗ (∃ W : Waits sig Unit, owes (c : Thread nD τ) 0 W)
          -∗ outs c fLen fK fV v518 fQa fQb fKf fVf fSf (k.val + 1) -∗ Q ()))
      ⊢ wp frame (wpE (defs₀ (F := F)) Variants.none (c : Thread nD τ) none) Set.univ (body2 v501 v518 k ()) Q := by
  have hchk2 := chk2
  have hchk3 := chk3
  unfold row2 busyK busyV reads outs
  unfold body2 Gen.k0_t2_body
  simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold k0_part2_skel k0_part3_skel k0_part4_skel k0_part5_skel k0_part6_skel k0_part7_skel k0_part8_skel k0_part9_skel k0_part10_skel k0_part11_skel k0_part12_skel k0_part13_skel
  iintro ⟨⟨HL, HQa, HQb, HKf, HVf, HSf⟩, ⟨⟨HfK, HkR⟩, ⟨HfV, HvR⟩, HtK, HtV⟩, ⟨%W, HW⟩, ⟨%fOa, %fOb, %fCa, %fCb, HOa, HOb, HCa, HCb, %hout⟩, HQ⟩
  sl_exec
  ihave HK := (joinK c fLen fK k) $$ [HfK_dst HtK]
  · isplitl [HfK_dst]; · iexact HfK_dst
    iexact HtK
  sl_exec
  ihave HV := (joinV c fLen fV k) $$ [HfV_dst HtV]
  · isplitl [HfV_dst]; · iexact HfV_dst
    iexact HtV
  sl_exec
  have e : trip2.sl.r_1 c fLen k = lenW c fLen k := by
    unfold trip2.sl.r_1 lenW
    show fLen _ = fLen _
    congr 1
    funext a
    apply Fin.ext
    match a with
    | 0 => show k0_off9 k 0 + 1 * 0 = k.val
           rw [off9_eq]; rfl
  dsimp only
  rw [e]
  unfold trip2.sl.v1147 trip2.sl.v1188 trip2.sl.v1229 trip2.sl.v1270 trip2.sl.v1311 trip2.sl.v1341 trip2.sl.v1387 trip2.sl.v1433 trip2.sl.v1479 trip2.sl.v1525
  simp only [rd10 _ _ k 0 (off10_0 k), rd10 _ _ k 1 (off10_1 k), rd10 _ _ k 2 (off10_2 k), rd10 _ _ k 3 (off10_3 k), rd10 _ _ k 4 (off10_4 k),
    rdRow _ _ k 0 (off11_eq k), rdRow _ _ k 1 (off13_eq k), rdRow _ _ k 2 (off15_eq k), rdRow _ _ k 3 (off17_eq k), rdRow _ _ k 4 (off19_eq k),
    rdBlk _ _ k 0 (off12_eq k), rdBlk _ _ k 1 (off14_eq k), rdBlk _ _ k 2 (off16_eq k), rdBlk _ _ k 3 (off18_eq k), rdBlk _ _ k 4 (off20_eq k),
    pay48_row, pay49_row, pay50_row, pay51_row, pay55_row, pay56_row, pay57_row, pay59_row, pay63_row, pay64_row, pay65_row, pay67_row, pay71_row, pay72_row, pay74_row, pay75_row, pay79_row, pay80_row, pay226_row, pay227_row]
  sl_step
  ihave HK := (Entails.of_eq (rowK_eq c fLen fK k)) $$ HK
  ihave HV := (Entails.of_eq (rowV_eq c fLen fV k)) $$ HV
  iapply HQ $$ [HL HQa HQb HKf HVf HSf] [HfK HfV HkR HvR HK HV] [HW]
  · isplitl [HL]; · iexact HL
    isplitl [HQa]; · iexact HQa
    isplitl [HQb]; · iexact HQb
    isplitl [HKf]; · iexact HKf
    isplitl [HVf]; · iexact HVf
    iexact HSf
  · isplitl [HfK]; · iexact HfK
    isplitl [HfV]; · iexact HfV
    isplitl [HkR]; · iexact HkR
    isplitl [HvR]; · iexact HvR
    isplitl [HK]; · iexact HK
    iexact HV
  · iexists _; iexact HW
  iexists _, _, _, _
  isplitl [HOa]; · iexact HOa
  isplitl [HOb]; · iexact HOb
  isplitl [HCa]; · iexact HCa
  isplitl [HCb]; · iexact HCb
  ipureintro
  exact ⟨out5_step sOa.view fOa k (fun k g => headL (gO c fLen fK fV v518 fQa fQb fKf fVf fSf k g)) hout.1, out5_step sOb.view fOb k (fun k g => tailL (gO c fLen fK fV v518 fQa fQb fKf fVf fSf k g)) hout.2.1, out5_step sCa.view fCa k (fun k g => headL (gC c fLen fK fV v518 fQa fQb fKf fSf k g)) hout.2.2.1, out5_step sCb.view fCb k (fun k g => tailL (gC c fLen fK fV v518 fQa fQb fKf fSf k g)) hout.2.2.2⟩

/-- The second loop's invariant: every row in its state, the stored rows in the output buffers. -/
@[instance_reducible] def loop2 : LoopInv (M := MT nD τ sig Unit (Elt F) ℕ (Pipeline.UD sig nD τ) ℕ) Idealize.ShloMosaic.frame
    (wpE (defs₀ (F := F)) Variants.none (c : Thread nD τ) none) Set.univ
    k0_t2_loop.lb k0_t2_loop.ub k0_t2_loop.st k0_t2_ok () (body2 v501 v518) where
  inv n _ := iprop(reads c fLen fQa fQb fKf fVf fSf ∗ Ring.AtW (row2 c fLen fK fV) (st1 n) ∗ (∃ W : Waits sig Unit, owes (c : Thread nD τ) 0 W)
      ∗ outs c fLen fK fV v518 fQa fQb fKf fVf fSf n)
  step k acc := by
    rw [st1_succ, Ring.AtW_focus (row2 c fLen fK fV) (st1 k.val) k]
    have hk : st1 k.val k = false := by simp [st1]
    rw [hk]
    iintro ⟨HL, ⟨Hr, HR⟩, HW, HO⟩
    iapply (trip2 c fLen fK fV v501 v518 fQa fQb fKf fVf fSf k)
    isplitl [HL]; · iexact HL
    isplitl [Hr]; · iexact Hr
    isplitl [HW]; · iexact HW
    isplitl [HO]; · iexact HO
    iintro HL Hr HW HO
    isplitl [HL]; · iexact HL
    isplitl [Hr HR]
    · iapply (Ring.AtW_update (row2 c fLen fK fV) (st1 k.val) k true)
      isplitl [Hr]; · iexact Hr
      iexact HR
    isplitl [HW]; · iexact HW
    iexact HO
end Loop
end Cert.Proof.KernelIdeal
-- ==== Proof.Rows.lean ====
/- The staging buffers and the caches cut into rows for the loops, and put together again. -/
module

public import proofs.«01_k».proof.Proof.Loop1
public import proofs.«01_k».proof.Proof.Loop2

@[expose] public section

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (fLen : Bf (F := F) c sLen) (fK : Bf (F := F) c hK) (fV : Bf (F := F) c hV)
  (dK : Bf (F := F) c sK) (dV : Bf (F := F) c sV)

theorem bsep (Φ Ψ : Row → sProp 𝕄) : bigSep Finset.univ (fun k => iprop(Φ k ∗ Ψ k)) = iprop(bigSep Finset.univ Φ ∗ bigSep Finset.univ Ψ) :=
  bigSep_sep _ _ _

/-- Every row's two semaphores at zero. -/
def ringSems : sProp 𝕄 :=
  bigSep Finset.univ fun k : Row => iprop(semVal ((c : Thread nD τ), kCell k) 0 ∗ semVal ((c : Thread nD τ), vCell k) 0)

/-- A whole first cache is the rows' shares and the rest. -/
theorem cacheK_split : (pt c hK fK : sProp 𝕄)
    ⊢ iprop((hK.view.loc (c : Thread nD τ) ↦{Transfers.shareDrop fullShare 14} fK)
        ∗ bigSep Finset.univ fun k : Row => (hK.view.loc (c : Thread nD τ) ↦{tok k} fK)) :=
  Transfers.pointsTo_toks_split fullShare 14
theorem cacheV_split : (pt c hV fV : sProp 𝕄)
    ⊢ iprop((hV.view.loc (c : Thread nD τ) ↦{Transfers.shareDrop fullShare 14} fV)
        ∗ bigSep Finset.univ fun k : Row => (hV.view.loc (c : Thread nD τ) ↦{tok k} fV)) :=
  Transfers.pointsTo_toks_split fullShare 14
theorem cacheK_join : (iprop((hK.view.loc (c : Thread nD τ) ↦{Transfers.shareDrop fullShare 14} fK)
        ∗ bigSep Finset.univ fun k : Row => (hK.view.loc (c : Thread nD τ) ↦{tok k} fK)) : sProp 𝕄) ⊢ pt c hK fK :=
  Transfers.pointsTo_toks_join fullShare 14
theorem cacheV_join : (iprop((hV.view.loc (c : Thread nD τ) ↦{Transfers.shareDrop fullShare 14} fV)
        ∗ bigSep Finset.univ fun k : Row => (hV.view.loc (c : Thread nD τ) ↦{tok k} fV)) : sProp 𝕄) ⊢ pt c hV fV :=
  Transfers.pointsTo_toks_join fullShare 14

/-- A staging buffer is its rows' windows and the last positions. -/
theorem stageK_split : (pt c sK dK : sProp 𝕄)
    ⊢ iprop((bigSep Finset.univ fun k : Row => (sK.view.loc (c : Thread nD τ) ↦[winSet k]{fullShare} dK))
        ∗ ((sinkDst sK).view.loc (c : Thread nD τ) ↦[(sinkDst sK).view.set]{fullShare} dK)) := by
  have h : (sK.view.loc (c : Thread nD τ) ↦[Finset.univ.biUnion winSet ∪ Finset.univ.biUnion tailSet]{fullShare} dK : sProp 𝕄)
      ⊢ iprop((sK.view.loc (c : Thread nD τ) ↦[Finset.univ.biUnion winSet]{fullShare} dK) ∗ (sK.view.loc (c : Thread nD τ) ↦[Finset.univ.biUnion tailSet]{fullShare} dK)) :=
    (pointsTo_union win_tails_disjoint).1
  rw [wins_union_tails] at h
  refine h.trans ?_
  rw [sinkK_set]
  exact sep_mono_left (Entails.of_eq (Ring.pointsTo_sub_blocks (ℓ := sK.view.loc (c : Thread nD τ)) winSet win_disjoint _ rfl _))
theorem stageV_split : (pt c sV dV : sProp 𝕄)
    ⊢ iprop((bigSep Finset.univ fun k : Row => (sV.view.loc (c : Thread nD τ) ↦[winSet k]{fullShare} dV))
        ∗ ((sinkDst sV).view.loc (c : Thread nD τ) ↦[(sinkDst sV).view.set]{fullShare} dV)) := by
  have h : (sV.view.loc (c : Thread nD τ) ↦[Finset.univ.biUnion winSet ∪ Finset.univ.biUnion tailSet]{fullShare} dV : sProp 𝕄)
      ⊢ iprop((sV.view.loc (c : Thread nD τ) ↦[Finset.univ.biUnion winSet]{fullShare} dV) ∗ (sV.view.loc (c : Thread nD τ) ↦[Finset.univ.biUnion tailSet]{fullShare} dV)) :=
    (pointsTo_union win_tails_disjoint).1
  rw [wins_union_tails] at h
  refine h.trans ?_
  rw [sinkV_set]
  exact sep_mono_left (Entails.of_eq (Ring.pointsTo_sub_blocks (ℓ := sV.view.loc (c : Thread nD τ)) winSet win_disjoint _ rfl _))

/-- Before the first loop. -/
theorem rows_start : (iprop(pt c hK fK ∗ pt c hV fV ∗ pt c sK dK ∗ pt c sV dV ∗ ringSems c) : sProp 𝕄)
    ⊢ iprop((hK.view.loc (c : Thread nD τ) ↦{Transfers.shareDrop fullShare 14} fK)
        ∗ (hV.view.loc (c : Thread nD τ) ↦{Transfers.shareDrop fullShare 14} fV)
        ∗ ((sinkDst sK).view.loc (c : Thread nD τ) ↦[(sinkDst sK).view.set]{fullShare} dK)
        ∗ ((sinkDst sV).view.loc (c : Thread nD τ) ↦[(sinkDst sV).view.set]{fullShare} dV)
        ∗ Ring.AtW (row1 c fLen fK fV dK dV) (st1 0)) := by
  iintro ⟨HK, HV, HsK, HsV, HS⟩
  ihave HK2 := cacheK_split c fK $$ HK
  icases HK2 with ⟨HK, HKt⟩
  ihave HV2 := cacheV_split c fV $$ HV
  icases HV2 with ⟨HV, HVt⟩
  ihave HsK2 := stageK_split c dK $$ HsK
  icases HsK2 with ⟨HKw, HsK⟩
  ihave HsV2 := stageV_split c dV $$ HsV
  icases HsV2 with ⟨HVw, HsV⟩
  isplitl [HK]; · iexact HK
  isplitl [HV]; · iexact HV
  isplitl [HsK]; · iexact HsK
  isplitl [HsV]; · iexact HsV
  have e : (Ring.AtW (row1 c fLen fK fV dK dV) (st1 0) : sProp 𝕄)
      = bigSep Finset.univ (fun k : Row => iprop(idleK c fK dK k ∗ idleV c fV dV k)) :=
    bigSep_congr fun k _ => by simp [st1, row1]
  rw [e]
  unfold idleK idleV
  simp only [bsep]
  ihave HS' := (Entails.of_eq (show ringSems (F := F) c = _ from bsep _ _)) $$ HS
  icases HS' with ⟨HS1, HS2⟩
  isplitl [HS1 HKt HKw]
  · isplitl [HS1]; · iexact HS1
    isplitl [HKt]; · iexact HKt
    iexact HKw
  · isplitl [HS2]; · iexact HS2
    isplitl [HVt]; · iexact HVt
    iexact HVw

/-- Between the loops. -/
theorem rows_mid : (iprop(((sinkDst sK).view.loc (c : Thread nD τ) ↦[(sinkDst sK).view.set]{fullShare}
          (sinkDst sK).view.writes (Elt F) dK [⟨Rect.whole S14x800x128, ReadAs.same.apply ((sinkSrc hK).view.read (Elt F) fK)⟩])
        ∗ ((sinkDst sV).view.loc (c : Thread nD τ) ↦[(sinkDst sV).view.set]{fullShare}
          (sinkDst sV).view.writes (Elt F) dV [⟨Rect.whole S14x800x128, ReadAs.same.apply ((sinkSrc hV).view.read (Elt F) fV)⟩])
        ∗ Ring.AtW (row1 c fLen fK fV dK dV) (st1 14)) : sProp 𝕄)
    ⊢ Ring.AtW (row2 c fLen fK fV) (st1 0) := by
  have eK : (sinkDst sK).view.writes (Elt F) dK [⟨Rect.whole S14x800x128, ReadAs.same.apply ((sinkSrc hK).view.read (Elt F) fK)⟩]
      = View.write (Elt F) (sinkDst sK).view dK (ReadAs.same.apply ((sinkSrc hK).view.read (Elt F) fK)) Finset.univ :=
    (View.write_univ_eq_writes_whole _ _ [] _).symm
  have eV : (sinkDst sV).view.writes (Elt F) dV [⟨Rect.whole S14x800x128, ReadAs.same.apply ((sinkSrc hV).view.read (Elt F) fV)⟩]
      = View.write (Elt F) (sinkDst sV).view dV (ReadAs.same.apply ((sinkSrc hV).view.read (Elt F) fV)) Finset.univ :=
    (View.write_univ_eq_writes_whole _ _ [] _).symm
  rw [eK, eV, pointsTo_congr (landSinkK c fK dK fLen), pointsTo_congr (landSinkV c fV dV fLen), sinkK_set, sinkV_set]
  have e : (Ring.AtW (row1 c fLen fK fV dK dV) (st1 14) : sProp 𝕄)
      = bigSep Finset.univ (fun k : Row => iprop(busyK c fLen fK k ∗ busyV c fLen fV k)) :=
    bigSep_congr fun k _ => by
      have : st1 14 k = true := by simp [st1]; exact lt_of_lt_of_eq k.isLt trips1
      rw [this, row1]
  have e2 : (Ring.AtW (row2 c fLen fK fV) (st1 0) : sProp 𝕄)
      = bigSep Finset.univ (fun k : Row => row2 c fLen fK fV k false) :=
    bigSep_congr fun k _ => by simp [st1]
  rw [e, e2]
  unfold row2
  simp only [bsep]
  iintro ⟨HK, HV, HBK, HBV⟩
  isplitl [HBK]; · iexact HBK
  isplitl [HBV]; · iexact HBV
  isplitl [HK]
  · iapply (Entails.of_eq (Ring.pointsTo_sub_blocks (ℓ := sK.view.loc (c : Thread nD τ)) tailSet tail_disjoint _ rfl _))
    iexact HK
  · iapply (Entails.of_eq (Ring.pointsTo_sub_blocks (ℓ := sV.view.loc (c : Thread nD τ)) tailSet tail_disjoint _ rfl _))
    iexact HV

/-- After the second loop. -/
theorem rows_end : (iprop((hK.view.loc (c : Thread nD τ) ↦{Transfers.shareDrop fullShare 14} fK)
        ∗ (hV.view.loc (c : Thread nD τ) ↦{Transfers.shareDrop fullShare 14} fV)
        ∗ Ring.AtW (row2 c fLen fK fV) (st1 14)) : sProp 𝕄)
    ⊢ iprop(pt c hK fK ∗ pt c hV fV ∗ pt c sK (staged fK fLen) ∗ pt c sV (staged fV fLen) ∗ ringSems c) := by
  have e2 : (Ring.AtW (row2 c fLen fK fV) (st1 14) : sProp 𝕄)
      = bigSep Finset.univ (fun k : Row => row2 c fLen fK fV k true) :=
    bigSep_congr fun k _ => by
      have : st1 14 k = true := by simp [st1]; exact lt_of_lt_of_eq k.isLt trips1
      rw [this]
  rw [e2]
  unfold row2 ringSems
  simp only [bsep]
  iintro ⟨HK, HV, HS1, HS2, HKt, HVt, HsK, HsV⟩
  isplitl [HK HKt]
  · iapply (cacheK_join c fK)
    isplitl [HK]; · iexact HK
    iexact HKt
  isplitl [HV HVt]
  · iapply (cacheV_join c fV)
    isplitl [HV]; · iexact HV
    iexact HVt
  isplitl [HsK]
  · iapply (Entails.of_eq (Ring.pointsTo_blocks (ℓ := sK.view.loc (c : Thread nD τ)) rowSet row_disjoint rows_union _).symm)
    iexact HsK
  isplitl [HsV]
  · iapply (Entails.of_eq (Ring.pointsTo_blocks (ℓ := sV.view.loc (c : Thread nD τ)) rowSet row_disjoint rows_union _).symm)
    iexact HsV
  isplitl [HS1]; · iexact HS1
  iexact HS2
end Cert.Proof.KernelIdeal
-- ==== Proof.Leave.lean ====
/- The kernel from its second loop on: the rows computed, the heads gathered, the results copied out. -/
module

public import proofs.«01_k».proof.Proof.Enter
public import proofs.«01_k».proof.Proof.Rows

@[expose] public section

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A lane's number. -/
abbrev lanes : IVec S8x1280 32 := iota .tc S8x1280 32 [1] iota_S8x1280_d1_w32

/-- The second loop at the head of a program. -/
theorem loop2_run (c : Dev nD) (Q : PUnit → sProp 𝕄) (fLen : Bf (F := F) c sLen) (fK : Bf (F := F) c hK) (fV : Bf (F := F) c hV)
    (v501 : FVec F S14x160 .f32) (v518 : IVec S8x1280 32) (fQa : Bf (F := F) c sQa) (fQb : Bf (F := F) c sQb) (fKf : Bf (F := F) c sKf) (fVf : Bf (F := F) c sVf) (fSf : Bf (F := F) c sSf)
    (kk : Unit → Prog (TpuEff nD τ sig (Elt F) Λ₀ .tc) PUnit) :
    iprop(reads c fLen fQa fQb fKf fVf fSf ∗ Ring.AtW (row2 c fLen fK fV) (st1 0) ∗ (∃ W : Waits sig Unit, owes (c : Thread nD τ) 0 W)
        ∗ outs c fLen fK fV v518 fQa fQb fKf fVf fSf 0)
      ⊢ (iprop((∀ acc : Unit, (reads c fLen fQa fQb fKf fVf fSf ∗ Ring.AtW (row2 c fLen fK fV) (st1 14) ∗ (∃ W : Waits sig Unit, owes (c : Thread nD τ) 0 W)
            ∗ outs c fLen fK fV v518 fQa fQb fKf fVf fSf 14)
          -∗ wp frame (wpE (defs₀ (F := F)) Variants.none (c : Thread nD τ) none) Set.univ (kk acc) Q)
        -∗ wp frame (wpE (defs₀ (F := F)) Variants.none (c : Thread nD τ) none) Set.univ
            (Scf.for k0_t2_loop.lb k0_t2_loop.ub k0_t2_loop.st k0_t2_ok () (body2 v501 v518) >>= kk) Q) : sProp 𝕄) := by
  have h := exec_loop (Q := Q) _ _ _ _ _ _ _ _ _ (loop2 c fLen fK fV v501 v518 fQa fQb fKf fVf fSf) (kk := kk)
  have e : Scf.trips k0_t2_loop.lb k0_t2_loop.ub k0_t2_loop.st = 14 := trips2
  rw [e] at h
  exact h

/-- What the results hold, by way of what the scratch buffers hold. -/
def Spec (c : Dev nD) (fLen : Bf (F := F) c hLen) (fX : Bf (F := F) c hX) (fKn : Bf (F := F) c hKn) (fVn : Bf (F := F) c hVn) (fVs : Bf (F := F) c hVs) (fK : Bf (F := F) c hK) (fV : Bf (F := F) c hV) (rO : Bf (F := F) c hO) (rS : Bf (F := F) c hC) : Prop :=
  ∃ (fQa : Bf (F := F) c sQa) (fQb : Bf (F := F) c sQb) (fKf : Bf (F := F) c sKf) (fVf : Bf (F := F) c sVf) (fSf : Bf (F := F) c sSf) (fOa : Bf (F := F) c sOa) (fOb : Bf (F := F) c sOb) (fCa : Bf (F := F) c sCa) (fCb : Bf (F := F) c sCb),
    QaOk c fX fQa ∧ QbOk c fX fQb ∧ KfOk c fKn fKf ∧ VfOk c fVn fVf ∧ SfOk c fVs fSf
    ∧ Out5 fOa (fun k g => headL (gO c fLen fK fV lanes fQa fQb fKf fVf fSf k g)) 14
    ∧ Out5 fOb (fun k g => tailL (gO c fLen fK fV lanes fQa fQb fKf fVf fSf k g)) 14
    ∧ Out5 fCa (fun k g => headL (gC c fLen fK fV lanes fQa fQb fKf fSf k g)) 14
    ∧ Out5 fCb (fun k g => tailL (gC c fLen fK fV lanes fQa fQb fKf fSf k g)) 14
    ∧ (∀ h x, hO.view.read (Elt F) rO ((rC h).emb x) = k0_pay228 (sOa.view.readAt (Elt F) (rA h).toLoadRect fOa) (sOb.view.readAt (Elt F) (rB h).toLoadRect fOb) x)
    ∧ (∀ h x, hC.view.read (Elt F) rS ((rC h).emb x) = k0_pay229 (sCa.view.readAt (Elt F) (rA h).toLoadRect fCa) (sCb.view.readAt (Elt F) (rB h).toLoadRect fCb) x)

/-- The resources at the kernel's end. -/
abbrev fin (c : Dev nD) (fLen : Bf (F := F) c hLen) (fX : Bf (F := F) c hX) (fKn : Bf (F := F) c hKn) (fVn : Bf (F := F) c hVn) (fVs : Bf (F := F) c hVs) (fK : Bf (F := F) c hK) (fV : Bf (F := F) c hV) (rO : Bf (F := F) c hO) (rS : Bf (F := F) c hC) : sProp 𝕄 :=
  iprop(pt c hLen fLen ∗ pt c hX fX ∗ pt c hKn fKn ∗ pt c hVn fVn ∗ pt c hVs fVs ∗ pt c hK fK ∗ pt c hV fV ∗ pt c hO rO ∗ pt c hC rS
    ∗ (∃ f, pt c sLen f) ∗ (∃ f, pt c sX f) ∗ (∃ f, pt c sKn f) ∗ (∃ f, pt c sVn f) ∗ (∃ f, pt c sVs f) ∗ (∃ f, pt c sK f) ∗ (∃ f, pt c sV f) ∗ (∃ f, pt c sQa f) ∗ (∃ f, pt c sQb f) ∗ (∃ f, pt c sKf f) ∗ (∃ f, pt c sVf f) ∗ (∃ f, pt c sSf f) ∗ (∃ f, pt c sOa f) ∗ (∃ f, pt c sOb f) ∗ (∃ f, pt c sCa f) ∗ (∃ f, pt c sCb f) ∗ (∃ f, pt c sO f) ∗ (∃ f, pt c sC f)
    ∗ semVal ((c : Thread nD τ), .dma cc0_scratch18.sem) 0 ∗ semVal ((c : Thread nD τ), .dma ((cc0_scratch19.slice (Rect.unit (s := S4) ![0] S1.size inb_S4_S1_0)).squeeze S_ squeezes_S1_S_).sem) 0 ∗ semVal ((c : Thread nD τ), .dma ((cc0_scratch19.slice (Rect.unit (s := S4) ![1] S1.size inb_S4_S1_1)).squeeze S_ squeezes_S1_S_).sem) 0 ∗ semVal ((c : Thread nD τ), .dma ((cc0_scratch19.slice (Rect.unit (s := S4) ![2] S1.size inb_S4_S1_2)).squeeze S_ squeezes_S1_S_).sem) 0 ∗ semVal ((c : Thread nD τ), .dma ((cc0_scratch19.slice (Rect.unit (s := S4) ![3] S1.size inb_S4_S1_3)).squeeze S_ squeezes_S1_S_).sem) 0 ∗ semVal ((c : Thread nD τ), .dma ((cc0_scratch20.slice (Rect.unit (s := S2) ![0] S1.size inb_S2_S1_0)).squeeze S_ squeezes_S1_S_).sem) 0 ∗ semVal ((c : Thread nD τ), .dma ((cc0_scratch20.slice (Rect.unit (s := S2) ![1] S1.size inb_S2_S1_1)).squeeze S_ squeezes_S1_S_).sem) 0 ∗ ringSems c ∗ semVal ((c : Thread nD τ), .dma ((cc0_scratch23.slice (Rect.unit (s := S2) ![0] S1.size inb_S2_S1_0)).squeeze S_ squeezes_S1_S_).sem) 0 ∗ semVal ((c : Thread nD τ), .dma ((cc0_scratch23.slice (Rect.unit (s := S2) ![1] S1.size inb_S2_S1_1)).squeeze S_ squeezes_S1_S_).sem) 0
    ∗ ∃ W', owes c.tc 0 W')

set_option maxHeartbeats 8000000 in
/-- The kernel from its second loop on. -/
theorem leave (c : Dev nD) (Q : PUnit → sProp 𝕄) (fLen : Bf (F := F) c hLen) (fX : Bf (F := F) c hX) (fKn : Bf (F := F) c hKn) (fVn : Bf (F := F) c hVn) (fVs : Bf (F := F) c hVs) (fK : Bf (F := F) c hK) (fV : Bf (F := F) c hV)
    (dK : Bf (F := F) c sK) (dV : Bf (F := F) c sV) (fQa : Bf (F := F) c sQa) (fQb : Bf (F := F) c sQb) (fKf : Bf (F := F) c sKf) (fVf : Bf (F := F) c sVf) (fSf : Bf (F := F) c sSf) (dOa : Bf (F := F) c sOa) (dOb : Bf (F := F) c sOb) (dCa : Bf (F := F) c sCa) (dCb : Bf (F := F) c sCb)
    (dO : Bf (F := F) c sO) (dC : Bf (F := F) c sC) (eO : Bf (F := F) c hO) (eC : Bf (F := F) c hC)
    (hm : midOk c fX fKn fVn fVs fQa fQb fKf fVf fSf) :
    iprop(mid c fLen fX fKn fVn fVs fK fV dK dV fQa fQb fKf fVf fSf
      ∗ pt c sOa dOa ∗ pt c sOb dOb ∗ pt c sCa dCa ∗ pt c sCb dCb ∗ pt c sO dO ∗ pt c sC dC ∗ pt c hO eO ∗ pt c hC eC
      ∗ semVal ((c : Thread nD τ), .dma ((cc0_scratch23.slice (Rect.unit (s := S2) ![0] S1.size inb_S2_S1_0)).squeeze S_ squeezes_S1_S_).sem) 0 ∗ semVal ((c : Thread nD τ), .dma ((cc0_scratch23.slice (Rect.unit (s := S2) ![1] S1.size inb_S2_S1_1)).squeeze S_ squeezes_S1_S_).sem) 0
      ∗ (∀ rO rS, ⌜Spec c fLen fX fKn fVn fVs fK fV rO rS⌝ -∗ fin c fLen fX fKn fVn fVs fK fV rO rS -∗ Q ⟨⟩))
      ⊢ wp frame (wpE (defs₀ (F := F)) Variants.none (c : Thread nD τ) none) Set.univ (do
      let v501 : FVec F S14x160 .f32 ← Prog.ret (k0_pay223 (sVn.view.readAt (Elt F) (rG 4).toLoadRect fVn))
      k0_part30 hLen (Memref.isWhole_whole _) hX (Memref.isWhole_whole _) hKn (Memref.isWhole_whole _) hVn (Memref.isWhole_whole _) hVs (Memref.isWhole_whole _) hK (Memref.isWhole_whole _) hV (Memref.isWhole_whole _) hO (Memref.isWhole_whole _) hC (Memref.isWhole_whole _) sLen (Memref.isWhole_whole _) sX (Memref.isWhole_whole _) sKn (Memref.isWhole_whole _) sVn (Memref.isWhole_whole _) sVs (Memref.isWhole_whole _) sK (Memref.isWhole_whole _) sV (Memref.isWhole_whole _) sQa (Memref.isWhole_whole _) sQb (Memref.isWhole_whole _) sKf (Memref.isWhole_whole _) sVf (Memref.isWhole_whole _) sSf (Memref.isWhole_whole _) sOa (Memref.isWhole_whole _) sOb (Memref.isWhole_whole _) sCa (Memref.isWhole_whole _) sCb (Memref.isWhole_whole _) sO (Memref.isWhole_whole _) sC (Memref.isWhole_whole _) cc0_scratch18 cc0_scratch19 cc0_scratch20 cc0_scratch21 cc0_scratch22 cc0_scratch23 v501
      let v555 : FVec F S14x160 .f32 ← k0_part31 hLen (Memref.isWhole_whole _) hX (Memref.isWhole_whole _) hKn (Memref.isWhole_whole _) hVn (Memref.isWhole_whole _) hVs (Memref.isWhole_whole _) hK (Memref.isWhole_whole _) hV (Memref.isWhole_whole _) hO (Memref.isWhole_whole _) hC (Memref.isWhole_whole _) sLen (Memref.isWhole_whole _) sX (Memref.isWhole_whole _) sKn (Memref.isWhole_whole _) sVn (Memref.isWhole_whole _) sVs (Memref.isWhole_whole _) sK (Memref.isWhole_whole _) sV (Memref.isWhole_whole _) sQa (Memref.isWhole_whole _) sQb (Memref.isWhole_whole _) sKf (Memref.isWhole_whole _) sVf (Memref.isWhole_whole _) sSf (Memref.isWhole_whole _) sOa (Memref.isWhole_whole _) sOb (Memref.isWhole_whole _) sCa (Memref.isWhole_whole _) sCb (Memref.isWhole_whole _) sO (Memref.isWhole_whole _) sC (Memref.isWhole_whole _) cc0_scratch18 cc0_scratch19 cc0_scratch20 cc0_scratch21 cc0_scratch22 cc0_scratch23
      k0_part32 hLen (Memref.isWhole_whole _) hX (Memref.isWhole_whole _) hKn (Memref.isWhole_whole _) hVn (Memref.isWhole_whole _) hVs (Memref.isWhole_whole _) hK (Memref.isWhole_whole _) hV (Memref.isWhole_whole _) hO (Memref.isWhole_whole _) hC (Memref.isWhole_whole _) sLen (Memref.isWhole_whole _) sX (Memref.isWhole_whole _) sKn (Memref.isWhole_whole _) sVn (Memref.isWhole_whole _) sVs (Memref.isWhole_whole _) sK (Memref.isWhole_whole _) sV (Memref.isWhole_whole _) sQa (Memref.isWhole_whole _) sQb (Memref.isWhole_whole _) sKf (Memref.isWhole_whole _) sVf (Memref.isWhole_whole _) sSf (Memref.isWhole_whole _) sOa (Memref.isWhole_whole _) sOb (Memref.isWhole_whole _) sCa (Memref.isWhole_whole _) sCb (Memref.isWhole_whole _) sO (Memref.isWhole_whole _) sC (Memref.isWhole_whole _) cc0_scratch18 cc0_scratch19 cc0_scratch20 cc0_scratch21 cc0_scratch22 cc0_scratch23 v555
      let ⟨v611, v612⟩ : Σ' (v611 : Vec F S14x128 .f32), Vec F S14x32 .f32 ← k0_part33 hLen (Memref.isWhole_whole _) hX (Memref.isWhole_whole _) hKn (Memref.isWhole_whole _) hVn (Memref.isWhole_whole _) hVs (Memref.isWhole_whole _) hK (Memref.isWhole_whole _) hV (Memref.isWhole_whole _) hO (Memref.isWhole_whole _) hC (Memref.isWhole_whole _) sLen (Memref.isWhole_whole _) sX (Memref.isWhole_whole _) sKn (Memref.isWhole_whole _) sVn (Memref.isWhole_whole _) sVs (Memref.isWhole_whole _) sK (Memref.isWhole_whole _) sV (Memref.isWhole_whole _) sQa (Memref.isWhole_whole _) sQb (Memref.isWhole_whole _) sKf (Memref.isWhole_whole _) sVf (Memref.isWhole_whole _) sSf (Memref.isWhole_whole _) sOa (Memref.isWhole_whole _) sOb (Memref.isWhole_whole _) sCa (Memref.isWhole_whole _) sCb (Memref.isWhole_whole _) sO (Memref.isWhole_whole _) sC (Memref.isWhole_whole _) cc0_scratch18 cc0_scratch19 cc0_scratch20 cc0_scratch21 cc0_scratch22 cc0_scratch23
      let v640 : FVec F S14x160 .bf16 ← k0_part34 hLen (Memref.isWhole_whole _) hX (Memref.isWhole_whole _) hKn (Memref.isWhole_whole _) hVn (Memref.isWhole_whole _) hVs (Memref.isWhole_whole _) hK (Memref.isWhole_whole _) hV (Memref.isWhole_whole _) hO (Memref.isWhole_whole _) hC (Memref.isWhole_whole _) sLen (Memref.isWhole_whole _) sX (Memref.isWhole_whole _) sKn (Memref.isWhole_whole _) sVn (Memref.isWhole_whole _) sVs (Memref.isWhole_whole _) sK (Memref.isWhole_whole _) sV (Memref.isWhole_whole _) sQa (Memref.isWhole_whole _) sQb (Memref.isWhole_whole _) sKf (Memref.isWhole_whole _) sVf (Memref.isWhole_whole _) sSf (Memref.isWhole_whole _) sOa (Memref.isWhole_whole _) sOb (Memref.isWhole_whole _) sCa (Memref.isWhole_whole _) sCb (Memref.isWhole_whole _) sO (Memref.isWhole_whole _) sC (Memref.isWhole_whole _) cc0_scratch18 cc0_scratch19 cc0_scratch20 cc0_scratch21 cc0_scratch22 cc0_scratch23 v611 v612
      let v670 : Vec F S14x128 .f32 ← k0_part35 hLen (Memref.isWhole_whole _) hX (Memref.isWhole_whole _) hKn (Memref.isWhole_whole _) hVn (Memref.isWhole_whole _) hVs (Memref.isWhole_whole _) hK (Memref.isWhole_whole _) hV (Memref.isWhole_whole _) hO (Memref.isWhole_whole _) hC (Memref.isWhole_whole _) sLen (Memref.isWhole_whole _) sX (Memref.isWhole_whole _) sKn (Memref.isWhole_whole _) sVn (Memref.isWhole_whole _) sVs (Memref.isWhole_whole _) sK (Memref.isWhole_whole _) sV (Memref.isWhole_whole _) sQa (Memref.isWhole_whole _) sQb (Memref.isWhole_whole _) sKf (Memref.isWhole_whole _) sVf (Memref.isWhole_whole _) sSf (Memref.isWhole_whole _) sOa (Memref.isWhole_whole _) sOb (Memref.isWhole_whole _) sCa (Memref.isWhole_whole _) sCb (Memref.isWhole_whole _) sO (Memref.isWhole_whole _) sC (Memref.isWhole_whole _) cc0_scratch18 cc0_scratch19 cc0_scratch20 cc0_scratch21 cc0_scratch22 cc0_scratch23 v640
      let ⟨v698, v699⟩ : Σ' (v698 : FVec F S14x160 .f32), Vec F S14x160 .f32 ← k0_part36 hLen (Memref.isWhole_whole _) hX (Memref.isWhole_whole _) hKn (Memref.isWhole_whole _) hVn (Memref.isWhole_whole _) hVs (Memref.isWhole_whole _) hK (Memref.isWhole_whole _) hV (Memref.isWhole_whole _) hO (Memref.isWhole_whole _) hC (Memref.isWhole_whole _) sLen (Memref.isWhole_whole _) sX (Memref.isWhole_whole _) sKn (Memref.isWhole_whole _) sVn (Memref.isWhole_whole _) sVs (Memref.isWhole_whole _) sK (Memref.isWhole_whole _) sV (Memref.isWhole_whole _) sQa (Memref.isWhole_whole _) sQb (Memref.isWhole_whole _) sKf (Memref.isWhole_whole _) sVf (Memref.isWhole_whole _) sSf (Memref.isWhole_whole _) sOa (Memref.isWhole_whole _) sOb (Memref.isWhole_whole _) sCa (Memref.isWhole_whole _) sCb (Memref.isWhole_whole _) sO (Memref.isWhole_whole _) sC (Memref.isWhole_whole _) cc0_scratch18 cc0_scratch19 cc0_scratch20 cc0_scratch21 cc0_scratch22 cc0_scratch23 v670
      let v728 : Vec F S14x128 .f32 ← k0_part37 hLen (Memref.isWhole_whole _) hX (Memref.isWhole_whole _) hKn (Memref.isWhole_whole _) hVn (Memref.isWhole_whole _) hVs (Memref.isWhole_whole _) hK (Memref.isWhole_whole _) hV (Memref.isWhole_whole _) hO (Memref.isWhole_whole _) hC (Memref.isWhole_whole _) sLen (Memref.isWhole_whole _) sX (Memref.isWhole_whole _) sKn (Memref.isWhole_whole _) sVn (Memref.isWhole_whole _) sVs (Memref.isWhole_whole _) sK (Memref.isWhole_whole _) sV (Memref.isWhole_whole _) sQa (Memref.isWhole_whole _) sQb (Memref.isWhole_whole _) sKf (Memref.isWhole_whole _) sVf (Memref.isWhole_whole _) sSf (Memref.isWhole_whole _) sOa (Memref.isWhole_whole _) sOb (Memref.isWhole_whole _) sCa (Memref.isWhole_whole _) sCb (Memref.isWhole_whole _) sO (Memref.isWhole_whole _) sC (Memref.isWhole_whole _) cc0_scratch18 cc0_scratch19 cc0_scratch20 cc0_scratch21 cc0_scratch22 cc0_scratch23 v698 v699
      let v757 : FVec F S14x160 .bf16 ← k0_part38 hLen (Memref.isWhole_whole _) hX (Memref.isWhole_whole _) hKn (Memref.isWhole_whole _) hVn (Memref.isWhole_whole _) hVs (Memref.isWhole_whole _) hK (Memref.isWhole_whole _) hV (Memref.isWhole_whole _) hO (Memref.isWhole_whole _) hC (Memref.isWhole_whole _) sLen (Memref.isWhole_whole _) sX (Memref.isWhole_whole _) sKn (Memref.isWhole_whole _) sVn (Memref.isWhole_whole _) sVs (Memref.isWhole_whole _) sK (Memref.isWhole_whole _) sV (Memref.isWhole_whole _) sQa (Memref.isWhole_whole _) sQb (Memref.isWhole_whole _) sKf (Memref.isWhole_whole _) sVf (Memref.isWhole_whole _) sSf (Memref.isWhole_whole _) sOa (Memref.isWhole_whole _) sOb (Memref.isWhole_whole _) sCa (Memref.isWhole_whole _) sCb (Memref.isWhole_whole _) sO (Memref.isWhole_whole _) sC (Memref.isWhole_whole _) cc0_scratch18 cc0_scratch19 cc0_scratch20 cc0_scratch21 cc0_scratch22 cc0_scratch23 v728
      k0_part39 hLen (Memref.isWhole_whole _) hX (Memref.isWhole_whole _) hKn (Memref.isWhole_whole _) hVn (Memref.isWhole_whole _) hVs (Memref.isWhole_whole _) hK (Memref.isWhole_whole _) hV (Memref.isWhole_whole _) hO (Memref.isWhole_whole _) hC (Memref.isWhole_whole _) sLen (Memref.isWhole_whole _) sX (Memref.isWhole_whole _) sKn (Memref.isWhole_whole _) sVn (Memref.isWhole_whole _) sVs (Memref.isWhole_whole _) sK (Memref.isWhole_whole _) sV (Memref.isWhole_whole _) sQa (Memref.isWhole_whole _) sQb (Memref.isWhole_whole _) sKf (Memref.isWhole_whole _) sVf (Memref.isWhole_whole _) sSf (Memref.isWhole_whole _) sOa (Memref.isWhole_whole _) sOb (Memref.isWhole_whole _) sCa (Memref.isWhole_whole _) sCb (Memref.isWhole_whole _) sO (Memref.isWhole_whole _) sC (Memref.isWhole_whole _) cc0_scratch18 cc0_scratch19 cc0_scratch20 cc0_scratch21 cc0_scratch22 cc0_scratch23 v757
      let v815 : FVec F S14x160 .f32 ← k0_part40 hLen (Memref.isWhole_whole _) hX (Memref.isWhole_whole _) hKn (Memref.isWhole_whole _) hVn (Memref.isWhole_whole _) hVs (Memref.isWhole_whole _) hK (Memref.isWhole_whole _) hV (Memref.isWhole_whole _) hO (Memref.isWhole_whole _) hC (Memref.isWhole_whole _) sLen (Memref.isWhole_whole _) sX (Memref.isWhole_whole _) sKn (Memref.isWhole_whole _) sVn (Memref.isWhole_whole _) sVs (Memref.isWhole_whole _) sK (Memref.isWhole_whole _) sV (Memref.isWhole_whole _) sQa (Memref.isWhole_whole _) sQb (Memref.isWhole_whole _) sKf (Memref.isWhole_whole _) sVf (Memref.isWhole_whole _) sSf (Memref.isWhole_whole _) sOa (Memref.isWhole_whole _) sOb (Memref.isWhole_whole _) sCa (Memref.isWhole_whole _) sCb (Memref.isWhole_whole _) sO (Memref.isWhole_whole _) sC (Memref.isWhole_whole _) cc0_scratch18 cc0_scratch19 cc0_scratch20 cc0_scratch21 cc0_scratch22 cc0_scratch23
      k0_part41 hLen (Memref.isWhole_whole _) hX (Memref.isWhole_whole _) hKn (Memref.isWhole_whole _) hVn (Memref.isWhole_whole _) hVs (Memref.isWhole_whole _) hK (Memref.isWhole_whole _) hV (Memref.isWhole_whole _) hO (Memref.isWhole_whole _) hC (Memref.isWhole_whole _) sLen (Memref.isWhole_whole _) sX (Memref.isWhole_whole _) sKn (Memref.isWhole_whole _) sVn (Memref.isWhole_whole _) sVs (Memref.isWhole_whole _) sK (Memref.isWhole_whole _) sV (Memref.isWhole_whole _) sQa (Memref.isWhole_whole _) sQb (Memref.isWhole_whole _) sKf (Memref.isWhole_whole _) sVf (Memref.isWhole_whole _) sSf (Memref.isWhole_whole _) sOa (Memref.isWhole_whole _) sOb (Memref.isWhole_whole _) sCa (Memref.isWhole_whole _) sCb (Memref.isWhole_whole _) sO (Memref.isWhole_whole _) sC (Memref.isWhole_whole _) cc0_scratch18 cc0_scratch19 cc0_scratch20 cc0_scratch21 cc0_scratch22 cc0_scratch23 v815
      let ⟨v871, v872⟩ : Σ' (v871 : Vec F S14x128 .f32), Vec F S14x32 .f32 ← k0_part42 hLen (Memref.isWhole_whole _) hX (Memref.isWhole_whole _) hKn (Memref.isWhole_whole _) hVn (Memref.isWhole_whole _) hVs (Memref.isWhole_whole _) hK (Memref.isWhole_whole _) hV (Memref.isWhole_whole _) hO (Memref.isWhole_whole _) hC (Memref.isWhole_whole _) sLen (Memref.isWhole_whole _) sX (Memref.isWhole_whole _) sKn (Memref.isWhole_whole _) sVn (Memref.isWhole_whole _) sVs (Memref.isWhole_whole _) sK (Memref.isWhole_whole _) sV (Memref.isWhole_whole _) sQa (Memref.isWhole_whole _) sQb (Memref.isWhole_whole _) sKf (Memref.isWhole_whole _) sVf (Memref.isWhole_whole _) sSf (Memref.isWhole_whole _) sOa (Memref.isWhole_whole _) sOb (Memref.isWhole_whole _) sCa (Memref.isWhole_whole _) sCb (Memref.isWhole_whole _) sO (Memref.isWhole_whole _) sC (Memref.isWhole_whole _) cc0_scratch18 cc0_scratch19 cc0_scratch20 cc0_scratch21 cc0_scratch22 cc0_scratch23
      let v900 : FVec F S14x160 .bf16 ← k0_part43 hLen (Memref.isWhole_whole _) hX (Memref.isWhole_whole _) hKn (Memref.isWhole_whole _) hVn (Memref.isWhole_whole _) hVs (Memref.isWhole_whole _) hK (Memref.isWhole_whole _) hV (Memref.isWhole_whole _) hO (Memref.isWhole_whole _) hC (Memref.isWhole_whole _) sLen (Memref.isWhole_whole _) sX (Memref.isWhole_whole _) sKn (Memref.isWhole_whole _) sVn (Memref.isWhole_whole _) sVs (Memref.isWhole_whole _) sK (Memref.isWhole_whole _) sV (Memref.isWhole_whole _) sQa (Memref.isWhole_whole _) sQb (Memref.isWhole_whole _) sKf (Memref.isWhole_whole _) sVf (Memref.isWhole_whole _) sSf (Memref.isWhole_whole _) sOa (Memref.isWhole_whole _) sOb (Memref.isWhole_whole _) sCa (Memref.isWhole_whole _) sCb (Memref.isWhole_whole _) sO (Memref.isWhole_whole _) sC (Memref.isWhole_whole _) cc0_scratch18 cc0_scratch19 cc0_scratch20 cc0_scratch21 cc0_scratch22 cc0_scratch23 v871 v872
      let v930 : Vec F S14x128 .f32 ← k0_part44 hLen (Memref.isWhole_whole _) hX (Memref.isWhole_whole _) hKn (Memref.isWhole_whole _) hVn (Memref.isWhole_whole _) hVs (Memref.isWhole_whole _) hK (Memref.isWhole_whole _) hV (Memref.isWhole_whole _) hO (Memref.isWhole_whole _) hC (Memref.isWhole_whole _) sLen (Memref.isWhole_whole _) sX (Memref.isWhole_whole _) sKn (Memref.isWhole_whole _) sVn (Memref.isWhole_whole _) sVs (Memref.isWhole_whole _) sK (Memref.isWhole_whole _) sV (Memref.isWhole_whole _) sQa (Memref.isWhole_whole _) sQb (Memref.isWhole_whole _) sKf (Memref.isWhole_whole _) sVf (Memref.isWhole_whole _) sSf (Memref.isWhole_whole _) sOa (Memref.isWhole_whole _) sOb (Memref.isWhole_whole _) sCa (Memref.isWhole_whole _) sCb (Memref.isWhole_whole _) sO (Memref.isWhole_whole _) sC (Memref.isWhole_whole _) cc0_scratch18 cc0_scratch19 cc0_scratch20 cc0_scratch21 cc0_scratch22 cc0_scratch23 v900
      let ⟨v958, v959⟩ : Σ' (v958 : FVec F S14x160 .f32), Vec F S14x160 .f32 ← k0_part45 hLen (Memref.isWhole_whole _) hX (Memref.isWhole_whole _) hKn (Memref.isWhole_whole _) hVn (Memref.isWhole_whole _) hVs (Memref.isWhole_whole _) hK (Memref.isWhole_whole _) hV (Memref.isWhole_whole _) hO (Memref.isWhole_whole _) hC (Memref.isWhole_whole _) sLen (Memref.isWhole_whole _) sX (Memref.isWhole_whole _) sKn (Memref.isWhole_whole _) sVn (Memref.isWhole_whole _) sVs (Memref.isWhole_whole _) sK (Memref.isWhole_whole _) sV (Memref.isWhole_whole _) sQa (Memref.isWhole_whole _) sQb (Memref.isWhole_whole _) sKf (Memref.isWhole_whole _) sVf (Memref.isWhole_whole _) sSf (Memref.isWhole_whole _) sOa (Memref.isWhole_whole _) sOb (Memref.isWhole_whole _) sCa (Memref.isWhole_whole _) sCb (Memref.isWhole_whole _) sO (Memref.isWhole_whole _) sC (Memref.isWhole_whole _) cc0_scratch18 cc0_scratch19 cc0_scratch20 cc0_scratch21 cc0_scratch22 cc0_scratch23 v930
      let v988 : Vec F S14x128 .f32 ← k0_part46 hLen (Memref.isWhole_whole _) hX (Memref.isWhole_whole _) hKn (Memref.isWhole_whole _) hVn (Memref.isWhole_whole _) hVs (Memref.isWhole_whole _) hK (Memref.isWhole_whole _) hV (Memref.isWhole_whole _) hO (Memref.isWhole_whole _) hC (Memref.isWhole_whole _) sLen (Memref.isWhole_whole _) sX (Memref.isWhole_whole _) sKn (Memref.isWhole_whole _) sVn (Memref.isWhole_whole _) sVs (Memref.isWhole_whole _) sK (Memref.isWhole_whole _) sV (Memref.isWhole_whole _) sQa (Memref.isWhole_whole _) sQb (Memref.isWhole_whole _) sKf (Memref.isWhole_whole _) sVf (Memref.isWhole_whole _) sSf (Memref.isWhole_whole _) sOa (Memref.isWhole_whole _) sOb (Memref.isWhole_whole _) sCa (Memref.isWhole_whole _) sCb (Memref.isWhole_whole _) sO (Memref.isWhole_whole _) sC (Memref.isWhole_whole _) cc0_scratch18 cc0_scratch19 cc0_scratch20 cc0_scratch21 cc0_scratch22 cc0_scratch23 v958 v959
      let v1017 : FVec F S14x160 .bf16 ← k0_part47 hLen (Memref.isWhole_whole _) hX (Memref.isWhole_whole _) hKn (Memref.isWhole_whole _) hVn (Memref.isWhole_whole _) hVs (Memref.isWhole_whole _) hK (Memref.isWhole_whole _) hV (Memref.isWhole_whole _) hO (Memref.isWhole_whole _) hC (Memref.isWhole_whole _) sLen (Memref.isWhole_whole _) sX (Memref.isWhole_whole _) sKn (Memref.isWhole_whole _) sVn (Memref.isWhole_whole _) sVs (Memref.isWhole_whole _) sK (Memref.isWhole_whole _) sV (Memref.isWhole_whole _) sQa (Memref.isWhole_whole _) sQb (Memref.isWhole_whole _) sKf (Memref.isWhole_whole _) sVf (Memref.isWhole_whole _) sSf (Memref.isWhole_whole _) sOa (Memref.isWhole_whole _) sOb (Memref.isWhole_whole _) sCa (Memref.isWhole_whole _) sCb (Memref.isWhole_whole _) sO (Memref.isWhole_whole _) sC (Memref.isWhole_whole _) cc0_scratch18 cc0_scratch19 cc0_scratch20 cc0_scratch21 cc0_scratch22 cc0_scratch23 v988
      k0_part48 hLen (Memref.isWhole_whole _) hX (Memref.isWhole_whole _) hKn (Memref.isWhole_whole _) hVn (Memref.isWhole_whole _) hVs (Memref.isWhole_whole _) hK (Memref.isWhole_whole _) hV (Memref.isWhole_whole _) hO (Memref.isWhole_whole _) hC (Memref.isWhole_whole _) sLen (Memref.isWhole_whole _) sX (Memref.isWhole_whole _) sKn (Memref.isWhole_whole _) sVn (Memref.isWhole_whole _) sVs (Memref.isWhole_whole _) sK (Memref.isWhole_whole _) sV (Memref.isWhole_whole _) sQa (Memref.isWhole_whole _) sQb (Memref.isWhole_whole _) sKf (Memref.isWhole_whole _) sVf (Memref.isWhole_whole _) sSf (Memref.isWhole_whole _) sOa (Memref.isWhole_whole _) sOb (Memref.isWhole_whole _) sCa (Memref.isWhole_whole _) sCb (Memref.isWhole_whole _) sO (Memref.isWhole_whole _) sC (Memref.isWhole_whole _) cc0_scratch18 cc0_scratch19 cc0_scratch20 cc0_scratch21 cc0_scratch22 cc0_scratch23 v1017
      let v1046 : DmaSems sig S1 := cc0_scratch23.slice (Rect.unit (s := S2) ![1] S1.size inb_S2_S1_1)
      let v1047 : DmaSems sig S_ := v1046.squeeze S_ squeezes_S1_S_
      Prog.lift (.waitDma2 v1047.sem sC hC (Memref.isWhole_whole _).wordExact (Memref.isWhole_whole _).wordExact)
      pure ⟨⟩) Q := by
  simp only [k0_part30_eq_skeleton]
  unfold k0_part30_skel
  unfold mid sinkOutK sinkOutV
  iintro ⟨⟨HaL, HaX, HaKn, HaVn, HaVs, HaK, HaV, HL, HX, HKn, HVn, HVs, Hk0, Hk1, HR, HQa, HQb, HKf, HVf, HSf, HsL, Hs0, Hs1, Hs2, Hs3, %W, HW⟩, HOa, HOb, HCa, HCb, HO, HC, HrO, HrC, Ho0, Ho1, HQ⟩
  sl_exec
  ihave HR := (rows_mid c fLen fK fV dK dV) $$ [Hk0_dst Hk1_dst HR]
  · isplitl [Hk0_dst]; · iexact Hk0_dst
    isplitl [Hk1_dst]; · iexact Hk1_dst
    iexact HR
  have hVf : VfOk c fVn (sVf.view.writes (Elt F) fVf [⟨rG 4, k0_pay224 (k0_pay223 (sVn.view.readAt (Elt F) (rG 4).toLoadRect fVn))⟩]) := by
    obtain ⟨d, rfl⟩ := hm.2.2.2.1
    exact family_ok sVf.view d rG (fun g => k0_pay209 (sVn.view.readAt (Elt F) (rG g).toLoadRect fVn)) down5 down5_all disjG
  have hSf : SfOk c fVs (sSf.view.writes (Elt F) fSf [⟨rG 4, k0_pay225 (sVs.view.readAt (Elt F) (rG 4).toLoadRect fVs)⟩]) := by
    obtain ⟨d, rfl⟩ := hm.2.2.2.2
    exact family_ok sSf.view d rG (fun g => k0_pay225 (sVs.view.readAt (Elt F) (rG g).toLoadRect fVs)) down5 down5_all disjG
  obtain ⟨gVf, eVf⟩ : ∃ g, g = sVf.view.writes (Elt F) fVf [⟨rG 4, k0_pay224 (k0_pay223 (sVn.view.readAt (Elt F) (rG 4).toLoadRect fVn))⟩] := ⟨_, rfl⟩
  obtain ⟨gSf, eSf⟩ : ∃ g, g = sSf.view.writes (Elt F) fSf [⟨rG 4, k0_pay225 (sVs.view.readAt (Elt F) (rG 4).toLoadRect fVs)⟩] := ⟨_, rfl⟩
  rw [← eVf] at hVf
  rw [← eSf] at hSf
  ihave HVf := (Entails.of_eq (congrArg (fun g => (pt c sVf g : sProp 𝕄)) eVf.symm)) $$ [HVf]
  · iexact HVf
  ihave HSf := (Entails.of_eq (congrArg (fun g => (pt c sSf g : sProp 𝕄)) eSf.symm)) $$ [HSf]
  · iexact HSf
  clear eVf eSf
  rw [bind_assoc]
  iapply (loop2_run c Q fLen fK fV _ lanes fQa fQb fKf gVf gSf _) $$ [HL HQa HQb HKf HVf HSf HR HW HOa HOb HCa HCb]
  · isplitl [HL HQa HQb HKf HVf HSf]
    · unfold reads
      isplitl [HL]; · iexact HL
      isplitl [HQa]; · iexact HQa
      isplitl [HQb]; · iexact HQb
      isplitl [HKf]; · iexact HKf
      isplitl [HVf]; · iexact HVf
      iexact HSf
    isplitl [HR]; · iexact HR
    isplitl [HW]; · iexists _; iexact HW
    unfold outs
    iexists dOa, dOb, dCa, dCb
    isplitl [HOa]; · iexact HOa
    isplitl [HOb]; · iexact HOb
    isplitl [HCa]; · iexact HCa
    isplitl [HCb]; · iexact HCb
    ipureintro
    exact ⟨fun k hk => absurd hk (Nat.not_lt_zero _), fun k hk => absurd hk (Nat.not_lt_zero _), fun k hk => absurd hk (Nat.not_lt_zero _), fun k hk => absurd hk (Nat.not_lt_zero _)⟩
  iintro %acc HLR
  unfold reads outs
  icases HLR with ⟨⟨HL, HQa, HQb, HKf, HVf, HSf⟩, HR, ⟨%W2, HW⟩, ⟨%fOa, %fOb, %fCa, %fCb, HOa, HOb, HCa, HCb, %hout⟩⟩
  sl_exec
  have eR0 : View.write (Elt F) hO.view eO (leave.sl.dma320 c dO fOa fOb) Finset.univ = leave.sl.dma320 c dO fOa fOb := write_whole _ _ _
  have eR1 : View.write (Elt F) hC.view eC (leave.sl.dma320_1 c dC fCa fCb) Finset.univ = leave.sl.dma320_1 c dC fCa fCb := write_whole _ _ _
  rw [eR0, eR1]
  have hO' : ∀ h x, hO.view.read (Elt F) (leave.sl.dma320 c dO fOa fOb) ((rC h).emb x)
      = k0_pay228 (sOa.view.readAt (Elt F) (rA h).toLoadRect fOa) (sOb.view.readAt (Elt F) (rB h).toLoadRect fOb) x :=
    family_ok sO.view dO rC (fun h => k0_pay228 (sOa.view.readAt (Elt F) (rA h).toLoadRect fOa) (sOb.view.readAt (Elt F) (rB h).toLoadRect fOb)) down40 down40_all disjC
  have hC' : ∀ h x, hC.view.read (Elt F) (leave.sl.dma320_1 c dC fCa fCb) ((rC h).emb x)
      = k0_pay229 (sCa.view.readAt (Elt F) (rA h).toLoadRect fCa) (sCb.view.readAt (Elt F) (rB h).toLoadRect fCb) x :=
    family_ok sC.view dC rC (fun h => k0_pay229 (sCa.view.readAt (Elt F) (rA h).toLoadRect fCa) (sCb.view.readAt (Elt F) (rB h).toLoadRect fCb)) down40 down40_all disjC
  ihave HE := (rows_end c fLen fK fV) $$ [HaK HaV HR]
  · isplitl [HaK]; · iexact HaK
    isplitl [HaV]; · iexact HaV
    iexact HR
  icases HE with ⟨HaK, HaV, HsK, HsV, HRS⟩
  rw [wp_ret]
  imodintro
  ispecialize HQ $$ %_ %_
  iapply HQ $$ [] [HaL HaX HaKn HaVn HaVs HaK HaV HrO HrC HL HX HKn HVn HVs HsK HsV HQa HQb HKf HVf HSf HOa HOb HCa HCb HO HC HsL Hs0 Hs1 Hs2 Hs3 Hk0 Hk1 HRS Ho0 Ho1 HW]
  rotate_left
  · isplitl [HaL]; · iexact HaL
    isplitl [HaX]; · iexact HaX
    isplitl [HaKn]; · iexact HaKn
    isplitl [HaVn]; · iexact HaVn
    isplitl [HaVs]; · iexact HaVs
    isplitl [HaK]; · iexact HaK
    isplitl [HaV]; · iexact HaV
    isplitl [HrO]; · iexact HrO
    isplitl [HrC]; · iexact HrC
    isplitl [HL]; · iexists _; iexact HL
    isplitl [HX]; · iexists _; iexact HX
    isplitl [HKn]; · iexists _; iexact HKn
    isplitl [HVn]; · iexists _; iexact HVn
    isplitl [HVs]; · iexists _; iexact HVs
    isplitl [HsK]; · iexists _; iexact HsK
    isplitl [HsV]; · iexists _; iexact HsV
    isplitl [HQa]; · iexists _; iexact HQa
    isplitl [HQb]; · iexists _; iexact HQb
    isplitl [HKf]; · iexists _; iexact HKf
    isplitl [HVf]; · iexists _; iexact HVf
    isplitl [HSf]; · iexists _; iexact HSf
    isplitl [HOa]; · iexists _; iexact HOa
    isplitl [HOb]; · iexists _; iexact HOb
    isplitl [HCa]; · iexists _; iexact HCa
    isplitl [HCb]; · iexists _; iexact HCb
    isplitl [HO]; · iexists _; iexact HO
    isplitl [HC]; · iexists _; iexact HC
    isplitl [HsL]; · iexact HsL
    isplitl [Hs0]; · iexact Hs0
    isplitl [Hs1]; · iexact Hs1
    isplitl [Hs2]; · iexact Hs2
    isplitl [Hs3]; · iexact Hs3
    isplitl [Hk0]; · iexact Hk0
    isplitl [Hk1]; · iexact Hk1
    isplitl [HRS]; · iexact HRS
    isplitl [Ho0]; · iexact Ho0
    isplitl [Ho1]; · iexact Ho1
    iexists _; iexact HW
  · ipureintro
    exact ⟨fQa, fQb, fKf, gVf, gSf, fOa, fOb, fCa, fCb, hm.1, hm.2.1, hm.2.2.1, hVf, hSf, hout.1, hout.2.1, hout.2.2.1, hout.2.2.2, hO', hC'⟩
end Cert.Proof.KernelIdeal
-- ==== Proof.Launch.lean ====
/- The launch: what the kernel is handed, its run from entry to end, and what a whole run of @main leaves. -/
module

public import proofs.«01_k».proof.Proof.Leave
public import proofs.«01_k».proof.Proof.Gen.KernelIdeal.Frame
public import Idealize.ShloMosaic.Lib.Pipeline.FrameValue

@[expose] public section

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The kernel's semaphores -/

/-- The kernel's own semaphores, by number. -/
abbrev osem0 : Fin 37 → SemLoc sig := fun j => .dma ⟨j.1, j.2⟩

theorem ownSemFacts0 : Pipeline.OwnSemFacts cfg0.spec osem0 := by decide

/-- The kernel's own semaphores at zero, one by one. -/
theorem ownSems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), osem0 0) 0 ∗ semVal ((c : Thread nD τ), osem0 1) 0 ∗ semVal ((c : Thread nD τ), osem0 2) 0 ∗ semVal ((c : Thread nD τ), osem0 3) 0 ∗ semVal ((c : Thread nD τ), osem0 4) 0 ∗ semVal ((c : Thread nD τ), osem0 5) 0 ∗ semVal ((c : Thread nD τ), osem0 6) 0 ∗ semVal ((c : Thread nD τ), osem0 7) 0 ∗ semVal ((c : Thread nD τ), osem0 8) 0 ∗ semVal ((c : Thread nD τ), osem0 9) 0 ∗ semVal ((c : Thread nD τ), osem0 10) 0 ∗ semVal ((c : Thread nD τ), osem0 11) 0 ∗ semVal ((c : Thread nD τ), osem0 12) 0 ∗ semVal ((c : Thread nD τ), osem0 13) 0 ∗ semVal ((c : Thread nD τ), osem0 14) 0 ∗ semVal ((c : Thread nD τ), osem0 15) 0 ∗ semVal ((c : Thread nD τ), osem0 16) 0 ∗ semVal ((c : Thread nD τ), osem0 17) 0 ∗ semVal ((c : Thread nD τ), osem0 18) 0 ∗ semVal ((c : Thread nD τ), osem0 19) 0 ∗ semVal ((c : Thread nD τ), osem0 20) 0 ∗ semVal ((c : Thread nD τ), osem0 21) 0 ∗ semVal ((c : Thread nD τ), osem0 22) 0 ∗ semVal ((c : Thread nD τ), osem0 23) 0 ∗ semVal ((c : Thread nD τ), osem0 24) 0 ∗ semVal ((c : Thread nD τ), osem0 25) 0 ∗ semVal ((c : Thread nD τ), osem0 26) 0 ∗ semVal ((c : Thread nD τ), osem0 27) 0 ∗ semVal ((c : Thread nD τ), osem0 28) 0 ∗ semVal ((c : Thread nD τ), osem0 29) 0 ∗ semVal ((c : Thread nD τ), osem0 30) 0 ∗ semVal ((c : Thread nD τ), osem0 31) 0 ∗ semVal ((c : Thread nD τ), osem0 32) 0 ∗ semVal ((c : Thread nD τ), osem0 33) 0 ∗ semVal ((c : Thread nD τ), osem0 34) 0 ∗ semVal ((c : Thread nD τ), osem0 35) 0 ∗ semVal ((c : Thread nD τ), osem0 36) 0) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34, 35, 36] (by decide) (by decide)]; rfl

/-- The rows, listed. -/
abbrev rows : List Row := [⟨0, by decide⟩, ⟨1, by decide⟩, ⟨2, by decide⟩, ⟨3, by decide⟩, ⟨4, by decide⟩, ⟨5, by decide⟩, ⟨6, by decide⟩, ⟨7, by decide⟩, ⟨8, by decide⟩, ⟨9, by decide⟩, ⟨10, by decide⟩, ⟨11, by decide⟩, ⟨12, by decide⟩, ⟨13, by decide⟩]

/-- The rows' semaphores at zero, one by one. -/
theorem ringSems_eq (c : Dev nD) :
    (ringSems c : sProp 𝕄)
      = iprop((semVal ((c : Thread nD τ), osem0 7) 0 ∗ semVal ((c : Thread nD τ), osem0 21) 0) ∗ (semVal ((c : Thread nD τ), osem0 8) 0 ∗ semVal ((c : Thread nD τ), osem0 22) 0) ∗ (semVal ((c : Thread nD τ), osem0 9) 0 ∗ semVal ((c : Thread nD τ), osem0 23) 0) ∗ (semVal ((c : Thread nD τ), osem0 10) 0 ∗ semVal ((c : Thread nD τ), osem0 24) 0) ∗ (semVal ((c : Thread nD τ), osem0 11) 0 ∗ semVal ((c : Thread nD τ), osem0 25) 0) ∗ (semVal ((c : Thread nD τ), osem0 12) 0 ∗ semVal ((c : Thread nD τ), osem0 26) 0) ∗ (semVal ((c : Thread nD τ), osem0 13) 0 ∗ semVal ((c : Thread nD τ), osem0 27) 0) ∗ (semVal ((c : Thread nD τ), osem0 14) 0 ∗ semVal ((c : Thread nD τ), osem0 28) 0) ∗ (semVal ((c : Thread nD τ), osem0 15) 0 ∗ semVal ((c : Thread nD τ), osem0 29) 0) ∗ (semVal ((c : Thread nD τ), osem0 16) 0 ∗ semVal ((c : Thread nD τ), osem0 30) 0) ∗ (semVal ((c : Thread nD τ), osem0 17) 0 ∗ semVal ((c : Thread nD τ), osem0 31) 0) ∗ (semVal ((c : Thread nD τ), osem0 18) 0 ∗ semVal ((c : Thread nD τ), osem0 32) 0) ∗ (semVal ((c : Thread nD τ), osem0 19) 0 ∗ semVal ((c : Thread nD τ), osem0 33) 0) ∗ (semVal ((c : Thread nD τ), osem0 20) 0 ∗ semVal ((c : Thread nD τ), osem0 34) 0)) := by
  unfold ringSems
  rw [bigSep_univ_eq_bigSepL rows (by decide) (by decide)]; rfl

/-- The kernel's own semaphores with the rows' gathered. -/
theorem ownSems_ring (c : Dev nD) :
    (Pipeline.ownSems0 (Ix := Unit) (Name := ℕ) (U := Pipeline.UD sig nD τ) (Lvl := ℕ) (Val := Elt F) (τ := τ) osem0 c : sProp 𝕄)
      ⊢ iprop(semVal ((c : Thread nD τ), osem0 0) 0 ∗ semVal ((c : Thread nD τ), osem0 1) 0 ∗ semVal ((c : Thread nD τ), osem0 2) 0 ∗ semVal ((c : Thread nD τ), osem0 3) 0 ∗ semVal ((c : Thread nD τ), osem0 4) 0 ∗ semVal ((c : Thread nD τ), osem0 5) 0 ∗ semVal ((c : Thread nD τ), osem0 6) 0 ∗ ringSems c ∗ semVal ((c : Thread nD τ), osem0 35) 0 ∗ semVal ((c : Thread nD τ), osem0 36) 0) := by
  rw [ownSems_eq, ringSems_eq]
  iintro ⟨H0, H1, H2, H3, H4, H5, H6, H7, H8, H9, H10, H11, H12, H13, H14, H15, H16, H17, H18, H19, H20, H21, H22, H23, H24, H25, H26, H27, H28, H29, H30, H31, H32, H33, H34, H35, H36⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7 H21 H8 H22 H9 H23 H10 H24 H11 H25 H12 H26 H13 H27 H14 H28 H15 H29 H16 H30 H17 H31 H18 H32 H19 H33 H20 H34]
  · isplitl [H7 H21]
    · isplitl [H7]; · iexact H7
      iexact H21
    isplitl [H8 H22]
    · isplitl [H8]; · iexact H8
      iexact H22
    isplitl [H9 H23]
    · isplitl [H9]; · iexact H9
      iexact H23
    isplitl [H10 H24]
    · isplitl [H10]; · iexact H10
      iexact H24
    isplitl [H11 H25]
    · isplitl [H11]; · iexact H11
      iexact H25
    isplitl [H12 H26]
    · isplitl [H12]; · iexact H12
      iexact H26
    isplitl [H13 H27]
    · isplitl [H13]; · iexact H13
      iexact H27
    isplitl [H14 H28]
    · isplitl [H14]; · iexact H14
      iexact H28
    isplitl [H15 H29]
    · isplitl [H15]; · iexact H15
      iexact H29
    isplitl [H16 H30]
    · isplitl [H16]; · iexact H16
      iexact H30
    isplitl [H17 H31]
    · isplitl [H17]; · iexact H17
      iexact H31
    isplitl [H18 H32]
    · isplitl [H18]; · iexact H18
      iexact H32
    isplitl [H19 H33]
    · isplitl [H19]; · iexact H19
      iexact H33
    isplitl [H20]; · iexact H20
    iexact H34
  isplitl [H35]; · iexact H35
  iexact H36

/-- The same, back. -/
theorem ring_ownSems (c : Dev nD) :
    (iprop(semVal ((c : Thread nD τ), osem0 0) 0 ∗ semVal ((c : Thread nD τ), osem0 1) 0 ∗ semVal ((c : Thread nD τ), osem0 2) 0 ∗ semVal ((c : Thread nD τ), osem0 3) 0 ∗ semVal ((c : Thread nD τ), osem0 4) 0 ∗ semVal ((c : Thread nD τ), osem0 5) 0 ∗ semVal ((c : Thread nD τ), osem0 6) 0 ∗ ringSems c ∗ semVal ((c : Thread nD τ), osem0 35) 0 ∗ semVal ((c : Thread nD τ), osem0 36) 0) : sProp 𝕄)
      ⊢ Pipeline.ownSems0 (Ix := Unit) (Name := ℕ) (U := Pipeline.UD sig nD τ) (Lvl := ℕ) (Val := Elt F) (τ := τ) osem0 c := by
  rw [ownSems_eq, ringSems_eq]
  iintro ⟨H0, H1, H2, H3, H4, H5, H6, ⟨⟨H7, H21⟩, ⟨H8, H22⟩, ⟨H9, H23⟩, ⟨H10, H24⟩, ⟨H11, H25⟩, ⟨H12, H26⟩, ⟨H13, H27⟩, ⟨H14, H28⟩, ⟨H15, H29⟩, ⟨H16, H30⟩, ⟨H17, H31⟩, ⟨H18, H32⟩, ⟨H19, H33⟩, ⟨H20, H34⟩⟩, H35, H36⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  iexact H36

/-! ## The buffers it is handed -/

/-- The operands it reads. -/
abbrev H0 : Finset (Ref sig .tc) := {main_arg6, main_v0, main_v2, main_v4, main_v5, main_v7, main_v9}
theorem H0_sub : H0 ⊆ Pipeline.restRefs sig cfg0.spec := by decide

/-- The results it writes. -/
abbrev R0 : Finset (Ref sig .tc) := {main_v10_0, main_v10_1}
theorem R0_sub : R0 ⊆ Pipeline.restRefs sig cfg0.spec \ H0 := by decide

/-- The operands, one by one. -/
theorem operands_eq (c : Dev nD) :
    (bigSep H0 fun b => ((c : Thread nD τ).loc b ↦{fullShare} V m c b : sProp 𝕄))
      = iprop(pt c hLen (V m c main_arg6) ∗ pt c hX (V m c main_v0) ∗ pt c hKn (V m c main_v2) ∗ pt c hVn (V m c main_v4) ∗ pt c hVs (V m c main_v5) ∗ pt c hK (V m c main_v7) ∗ pt c hV (V m c main_v9)) := by
  rw [BI.bigSep_eq_bigSepL_of_eq [main_arg6, main_v0, main_v2, main_v4, main_v5, main_v7, main_v9] (by decide) (by decide)]; rfl

/-- The results, one by one. -/
theorem results_eq (c : Dev nD) (W : (b : Ref sig .tc) → Buf (Elt F) ((c.tc : Thread nD τ).loc b)) :
    (Pipeline.routed R0 c W : sProp 𝕄)
      = iprop(pt c hO (W main_v10_0) ∗ pt c hC (W main_v10_1)) := by
  unfold Pipeline.routed
  rw [BI.bigSep_eq_bigSepL_of_eq [main_v10_0, main_v10_1] (by decide) (by decide)]; rfl

/-- What is asked of the results' contents: `Spec` at the operands the region finds. -/
def Post (c : Dev nD) (W : (b : Ref sig .tc) → Buf (Elt F) ((c.tc : Thread nD τ).loc b)) : Prop :=
  Spec c (V m c main_arg6) (V m c main_v0) (V m c main_v2) (V m c main_v4) (V m c main_v5) (V m c main_v7) (V m c main_v9) (W main_v10_0) (W main_v10_1)

/-- What the region holds before the kernel. -/
abbrev phiIn (c : Dev nD) : sProp 𝕄 := Pipeline.ΦDRG osem0 cfg0.spec H0 R0 (V m) (V m) c

/-- What it holds after: the results at contents that meet `Post`. -/
abbrev phiOut (c : Dev nD) : sProp 𝕄 :=
  iprop(Pipeline.ΦD osem0 cfg0.spec H0 (V m) c ∗ Pipeline.routedSat R0 c (Post m c))

/-- The region's proof data: no window; the kernel takes `phiIn` to `phiOut`. -/
def dats (_ : Fin 1) (c : Dev nD) : Dat τ (Elt F) Unit ℕ (Pipeline.UD sig nD τ) ℕ cfg0 c where
  A w := w.elim0
  after w _ := w.elim0
  Φ t := if t.val = 0 then phiIn m c else phiOut m c
  q _ := fullShare
  owed _ := 0

theorem phi_first (c : Dev nD) : (dats m 0 c).Φ 0 = phiIn m c := by
  dsimp only [dats]; exact if_pos rfl
theorem phi_last (c : Dev nD) : (dats m 0 c).Φ (Fin.last _) = phiOut m c := by
  dsimp only [dats]; exact if_neg (by rw [Fin.val_last]; exact ne_of_eq_of_ne N_0 one_ne_zero)

theorem ret_head {E : Type → Type} {α β : Type} (x : α) (f : α → Prog E β) : (Prog.ret x >>= f) = f x := rfl

set_option maxHeartbeats 4000000 in
/-- The kernel's run, from what the region holds before it to what it holds after. -/
theorem kernel_run (c : Dev nD) (t : Fin cfg0.N) (Q : PUnit → sProp 𝕄) (W : Waits sig Unit) :
    iprop(phiIn m c ∗ owes (c : Thread nD τ) 0 W ∗ (phiOut m c -∗ (∃ W', owes (c : Thread nD τ) 0 W') -∗ Q ⟨⟩))
      ⊢ wp frame (wpE (defs₀ (F := F)) Variants.none (c : Thread nD τ) none) Set.univ (bodyAt0 t) Q := by
  unfold bodyAt0
  rw [cc0_gqa_decode_eq_skeleton]
  unfold cc0_gqa_decode_skel
  unfold phiIn phiOut Pipeline.routedSat
  rw [Pipeline.ΦDRG_eq, Pipeline.ΦD_eq, scopedRest0_eq, operands_eq, results_eq]
  simp only [results_eq]
  iintro ⟨⟨⟨⟨%dX, HsX⟩, ⟨%dKn, HsKn⟩, ⟨%dVn, HsVn⟩, ⟨%dVs, HsVs⟩, ⟨%dK, HsK⟩, ⟨%dV, HsV⟩, ⟨%dQa, HsQa⟩, ⟨%dQb, HsQb⟩, ⟨%dKf, HsKf⟩, ⟨%dVf, HsVf⟩, ⟨%dSf, HsSf⟩, ⟨%dOa, HsOa⟩, ⟨%dOb, HsOb⟩, ⟨%dCa, HsCa⟩, ⟨%dCb, HsCb⟩, ⟨%dO, HsO⟩, ⟨%dC, HsC⟩, ⟨%dLen, HsLen⟩⟩, Hg, Hsem, ⟨HhLen, HhX, HhKn, HhVn, HhVs, HhK, HhV⟩, HrO, HrC⟩, HW, HQ⟩
  ihave Hsem := (ownSems_ring c) $$ [Hsem]
  · iexact Hsem
  icases Hsem with ⟨HsL, Hi0, Hi1, Hi2, Hi3, Hk0, Hk1, Hring, Ho0, Ho1⟩
  ihave Hrows := (rows_start c (V m c main_arg6) (V m c main_v7) (V m c main_v9) dK dV) $$ [HhK HhV HsK HsV Hring]
  · isplitl [HhK]; · iexact HhK
    isplitl [HhV]; · iexact HhV
    isplitl [HsK]; · iexact HsK
    isplitl [HsV]; · iexact HsV
    iexact Hring
  icases Hrows with ⟨HhK, HhV, HsK, HsV, HR⟩
  iapply (enter c Q W _ (V m c main_arg6) (V m c main_v0) (V m c main_v2) (V m c main_v4) (V m c main_v5) (V m c main_v7) (V m c main_v9) dLen dX dKn dVn dVs dK dV dQa dQb dKf dVf dSf)
  isplitl [HhLen]; · iexact HhLen
  isplitl [HhX]; · iexact HhX
  isplitl [HhKn]; · iexact HhKn
  isplitl [HhVn]; · iexact HhVn
  isplitl [HhVs]; · iexact HhVs
  isplitl [HhK]; · iexact HhK
  isplitl [HhV]; · iexact HhV
  isplitl [HsLen]; · iexact HsLen
  isplitl [HsX]; · iexact HsX
  isplitl [HsKn]; · iexact HsKn
  isplitl [HsVn]; · iexact HsVn
  isplitl [HsVs]; · iexact HsVs
  isplitl [HsK]; · iexact HsK
  isplitl [HsV]; · iexact HsV
  isplitl [HR]; · iexact HR
  isplitl [HsQa]; · iexact HsQa
  isplitl [HsQb]; · iexact HsQb
  isplitl [HsKf]; · iexact HsKf
  isplitl [HsVf]; · iexact HsVf
  isplitl [HsSf]; · iexact HsSf
  isplitl [HsL]; · iexact HsL
  isplitl [Hi0]; · iexact Hi0
  isplitl [Hi1]; · iexact Hi1
  isplitl [Hi2]; · iexact Hi2
  isplitl [Hi3]; · iexact Hi3
  isplitl [Hk0]; · iexact Hk0
  isplitl [Hk1]; · iexact Hk1
  isplitl [HW]; · iexact HW
  iintro %fQa %fQb %fKf %fVf %fSf %hm Hmid
  have hl := leave c Q (V m c main_arg6) (V m c main_v0) (V m c main_v2) (V m c main_v4) (V m c main_v5) (V m c main_v7) (V m c main_v9) dK dV fQa fQb fKf fVf fSf dOa dOb dCa dCb dO dC (V m c main_v10_0) (V m c main_v10_1) hm
  rw [ret_head] at hl
  iapply hl
  isplitl [Hmid]; · iexact Hmid
  isplitl [HsOa]; · iexact HsOa
  isplitl [HsOb]; · iexact HsOb
  isplitl [HsCa]; · iexact HsCa
  isplitl [HsCb]; · iexact HsCb
  isplitl [HsO]; · iexact HsO
  isplitl [HsC]; · iexact HsC
  isplitl [HrO]; · iexact HrO
  isplitl [HrC]; · iexact HrC
  isplitl [Ho0]; · iexact Ho0
  isplitl [Ho1]; · iexact Ho1
  iintro %rO %rS %hS Hfin
  unfold fin
  icases Hfin with ⟨HhLen, HhX, HhKn, HhVn, HhVs, HhK, HhV, HrO, HrC, HsLen, HsX, HsKn, HsVn, HsVs, HsK, HsV, HsQa, HsQb, HsKf, HsVf, HsSf, HsOa, HsOb, HsCa, HsCb, HsO, HsC, HsL, Hi0, Hi1, Hi2, Hi3, Hk0, Hk1, Hring, Ho0, Ho1, HW⟩
  ihave Hsem := (ring_ownSems c) $$ [HsL Hi0 Hi1 Hi2 Hi3 Hk0 Hk1 Hring Ho0 Ho1]
  · isplitl [HsL]; · iexact HsL
    isplitl [Hi0]; · iexact Hi0
    isplitl [Hi1]; · iexact Hi1
    isplitl [Hi2]; · iexact Hi2
    isplitl [Hi3]; · iexact Hi3
    isplitl [Hk0]; · iexact Hk0
    isplitl [Hk1]; · iexact Hk1
    isplitl [Hring]; · iexact Hring
    isplitl [Ho0]; · iexact Ho0
    iexact Ho1
  iapply HQ $$ [HsX HsKn HsVn HsVs HsK HsV HsQa HsQb HsKf HsVf HsSf HsOa HsOb HsCa HsCb HsO HsC HsLen Hg Hsem HhLen HhX HhKn HhVn HhVs HhK HhV HrO HrC] [HW]
  rotate_left
  · iexact HW
  isplitl [HsX HsKn HsVn HsVs HsK HsV HsQa HsQb HsKf HsVf HsSf HsOa HsOb HsCa HsCb HsO HsC HsLen Hg Hsem HhLen HhX HhKn HhVn HhVs HhK HhV]
  · isplitl [HsX HsKn HsVn HsVs HsK HsV HsQa HsQb HsKf HsVf HsSf HsOa HsOb HsCa HsCb HsO HsC HsLen]
    · isplitl [HsX]; · iexact HsX
      isplitl [HsKn]; · iexact HsKn
      isplitl [HsVn]; · iexact HsVn
      isplitl [HsVs]; · iexact HsVs
      isplitl [HsK]; · iexact HsK
      isplitl [HsV]; · iexact HsV
      isplitl [HsQa]; · iexact HsQa
      isplitl [HsQb]; · iexact HsQb
      isplitl [HsKf]; · iexact HsKf
      isplitl [HsVf]; · iexact HsVf
      isplitl [HsSf]; · iexact HsSf
      isplitl [HsOa]; · iexact HsOa
      isplitl [HsOb]; · iexact HsOb
      isplitl [HsCa]; · iexact HsCa
      isplitl [HsCb]; · iexact HsCb
      isplitl [HsO]; · iexact HsO
      isplitl [HsC]; · iexact HsC
      iexact HsLen
    isplitl [Hg]; · iexact Hg
    isplitl [Hsem]; · iexact Hsem
    isplitl [HhLen]; · iexact HhLen
    isplitl [HhX]; · iexact HhX
    isplitl [HhKn]; · iexact HhKn
    isplitl [HhVn]; · iexact HhVn
    isplitl [HhVs]; · iexact HhVs
    isplitl [HhK]; · iexact HhK
    iexact HhV
  iexists (fun b => if h : b = main_v10_0 then h ▸ rO else if h : b = main_v10_1 then h ▸ rS else V m c b)
  isplitr
  · ipureintro; exact hS
  isplitl [HrO]; · iexact HrO
  iexact HrC

theorem defs₀_row (t : Fin cfg0.N) :
    defs₀ (F := F) .tc cfg0.body (cfg0.bodyArgs t (cfg0.slots t)) = bodyAt0 t := by
  unfold defs₀; rw [Defs.onTc_tc]

/-- The kernel meets what the region asks of it. -/
theorem body_obligation (c : Dev nD) : BodyObligation (dats (F := F) m 0 c) (defs₀ (F := F)) Variants.none () Set.univ := fun t => by
  rw [defs₀_row]
  have ht : t.val = 0 := by have := t.isLt; have h1 : cfg0.N = 1 := N_0; omega
  have e0 : (dats m 0 c).Φ t.castSucc = phiIn m c := by dsimp only [dats]; rw [if_pos]; exact ht
  have e1 : (dats m 0 c).Φ t.succ = phiOut m c := by dsimp only [dats]; rw [if_neg]; simp
  rw [e0, e1]
  unfold Dat.owesAt Pipeline.owesWithin
  rw [show (dats m 0 c).owed t.castSucc = 0 from rfl, show (dats m 0 c).owed t.succ = 0 from rfl]
  iintro ⟨HΦ, ⟨%W, -, HW⟩, Hw⟩
  iapply (kernel_run m c t _ W)
  isplitl [HΦ]; · iexact HΦ
  isplitl [HW]; · iexact HW
  iintro HΦ ⟨%W', HW⟩
  isplitl [HΦ]; · iexact HΦ
  isplitl [HW]
  · iexists W'; isplitr; · ipureintro; exact fun _ _ => Or.inl trivial
    iexact HW
  iexact Hw

/-! ## The run -/

set_option backward.isDefEq.respectTransparency.types false in
/-- A run of @main: every buffer but the results as the region found it, the results at contents that meet `Post`,
    every semaphore at zero. -/
theorem run_main : θ_run defs (onTc (τ := τ) (main (F := F))) (s₀ m ρ) (fun r =>
    (∀ c : Dev nD, (∀ b ∈ Pipeline.restRefs sig cfg0.spec \ R0, r.2.mem ((c.tc : Thread nD τ).loc b) = V m c b)
      ∧ ∃ W : (b : Ref sig .tc) → Buf (Elt F) ((c.tc : Thread nD τ).loc b), Post m c W ∧ ∀ b ∈ R0, r.2.mem ((c.tc : Thread nD τ).loc b) = W b)
    ∧ r.2.sem = fun _ => 0) :=
  Pipeline.RDat.θ_run_frameP_dmaRSat_shared (fun q => (cfgs q).toPCfg (Val := Elt F)) (fun q => (cfgs q).toPCfg_adm) (0 : Fin 1)
    launch0.toP.to₀ osem0 defs₀ Variants.none (fun c => (dats m 0 c).toR) ownSemFacts0 H0 R0
    (H0_sub.trans fun b hb => Finset.mem_sdiff.mpr ⟨hb, fun h => ((Finset.mem_image.mp h).elim fun k _ => k.elim0)⟩)
    (R0_sub.trans (Finset.sdiff_subset_sdiff (fun b hb => Finset.mem_sdiff.mpr ⟨hb, fun h => ((Finset.mem_image.mp h).elim fun k _ => k.elim0)⟩) subset_rfl))
    m ρ main (fun c => (body_obligation m c).loose.toR) (fun c w => w.elim0) (fun _ _ => rfl) (V m) (Pipeline.hmain_prefix cfgs 0 defs₀ Variants.none m main hostOps0 hostOps0_sub hostOps0_fresh main_chain)
    (fun c w => w.elim0) (fun _ k => k.elim0) (Post m)
    (fun c => Entails.trans (by iintro ⟨H, -⟩; iexact H) (Entails.of_eq (phi_first m c).symm)) (fun c => Entails.of_eq (phi_last m c)) _ (fun r h => ⟨fun c => ⟨(h.1.1 c).2, h.1.2 c⟩, h.2⟩)

/-- At any float type, from any memory with every semaphore at zero: a run of @main ends, its arguments unchanged, every
    semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨((h.1 c).1 main_arg0 (by decide)).trans (V_main_arg0 m c), ((h.1 c).1 main_arg1 (by decide)).trans (V_main_arg1 m c), ((h.1 c).1 main_arg2 (by decide)).trans (V_main_arg2 m c), ((h.1 c).1 main_arg3 (by decide)).trans (V_main_arg3 m c), ((h.1 c).1 main_arg4 (by decide)).trans (V_main_arg4 m c), ((h.1 c).1 main_arg5 (by decide)).trans (V_main_arg5 m c), ((h.1 c).1 main_arg6 (by decide)).trans (V_main_arg6 m c)⟩, h.2⟩) (run_main m ρ)

end Cert.Proof.KernelIdeal

end
-- ==== Proof.Transport.lean ====
/- The two printed forms of the kernel are one program: a run of one is a run of the other. -/
module

public import proofs.«01_k».proof.Proof.Launch
public import proofs.«01_k».proof.Proof.Gen.Kernel

@[expose] public section

set_option maxRecDepth 100000

noncomputable section

namespace Cert.Proof

open Idealize.ShloMosaic Idealize.ShloMosaic.TcCoe Idealize.SL.Sem

variable {F : FTy → Type} [FloatOps F]

set_option maxHeartbeats 4000000 in
/-- The frame of the program as printed, from that of its idealized form: the two are the same text. -/
theorem kernel_frame (m : (ℓ : Loc Cert.Kernel.nD Cert.Kernel.τ Cert.Kernel.sig) → Buf (Elt F) ℓ) (ρ : Dev Cert.Kernel.nD → PrngReg) :
    θ_run Cert.Kernel.defs (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0) := by
  have e1 : (Cert.Kernel.defs (F := F)) = Cert.KernelIdeal.defs (F := F) := rfl
  have e2 : (Cert.Kernel.main (F := F)) = Cert.KernelIdeal.main (F := F) := rfl
  have h := Cert.Proof.KernelIdeal.frame (F := F) m ρ
  rw [← e1, ← e2] at h
  exact h

end Cert.Proof

end
-- ==== Proof.Attend.lean ====
/- One query row of the attention over the extended reals. -/
module

public import Idealize.ShloMosaic.PureOps.Ideal.Laws

@[expose] public section

/-! One query row of the attention, over the reals extended with the two infinities, with no program in sight.

A row has scores `s` over some set of cached positions, one score `sn` for the newest position, one column `v` of value
codes over the same positions, and the scales of the codes. Masked positions carry the score `⊥`. The kernel and the
reference walk different sets of positions (a window and a sink, against the whole cache); the last theorems say that only
the unmasked positions matter. -/

namespace Cert.Proof.Attend

open Idealize.ShloMosaic

variable {ι κ : Type} [Fintype ι] [Fintype κ]

/-- The largest score of the row. -/
noncomputable def top (s : ι → EReal) (sn : EReal) : EReal := max (Finset.univ.fold max ⊥ s) sn

/-- The weight of one score. -/
noncomputable def wt (s : ι → EReal) (sn : EReal) (x : EReal) : EReal := Ideal.exp (x - top s sn)

/-- The sum of all weights, the newest position's included. -/
noncomputable def den (s : ι → EReal) (sn : EReal) : EReal := (∑ i, wt s sn (s i)) + wt s sn sn

/-- The weighted column over the cached positions, the weights first scaled by `k` and capped there, the sum scaled back by
    `c` and by the codes' scale `vs`. -/
noncomputable def ctx (k c : EReal) (s : ι → EReal) (sn : EReal) (v : ι → EReal) (vs : EReal) : EReal :=
  Ideal.div ((∑ i, min (wt s sn (s i) * k) k * v i) * c * vs) (den s sn)

/-- The row's output: the cached part and the newest position's part. -/
noncomputable def out (k c : EReal) (s : ι → EReal) (sn : EReal) (v : ι → EReal) (vs vn : EReal) : EReal :=
  ctx k c s sn v vs + Ideal.div (wt s sn sn * vn) (den s sn)

/-- A masked position has weight zero. -/
theorem wt_bot (s : ι → EReal) (sn : EReal) : wt s sn ⊥ = 0 := by
  unfold wt
  rw [sub_eq_add_neg, EReal.bot_add]
  rfl

/-- Two families of scores and columns that agree on their unmasked positions, matched by `pos`. -/
structure Match (s : ι → EReal) (s' : κ → EReal) (v : ι → EReal) (v' : κ → EReal) (P : ι → Prop) (P' : κ → Prop)
    (pos : ι → κ) : Prop where
  vis : ∀ i, P i → P' (pos i)
  score : ∀ i, P i → s i = s' (pos i)
  col : ∀ i, P i → v i = v' (pos i)
  hid : ∀ i, ¬ P i → s i = ⊥
  hid' : ∀ t, ¬ P' t → s' t = ⊥
  inj : ∀ i j, P i → P j → pos i = pos j → i = j
  sur : ∀ t, P' t → ∃ i, P i ∧ pos i = t

variable {s : ι → EReal} {s' : κ → EReal} {v : ι → EReal} {v' : κ → EReal} {P : ι → Prop} {P' : κ → Prop} {pos : ι → κ}

/-- Matched families have the same maximum. -/
theorem Match.fold (h : Match s s' v v' P P' pos) :
    (Finset.univ.fold max ⊥ s : EReal) = Finset.univ.fold max ⊥ s' := by
  show Finset.univ.sup s = Finset.univ.sup s'
  classical
  apply le_antisymm
  · refine Finset.sup_le fun i _ => ?_
    by_cases hi : P i
    · rw [h.score i hi]; exact Finset.le_sup (f := s') (Finset.mem_univ _)
    · rw [h.hid i hi]; exact bot_le
  · refine Finset.sup_le fun t _ => ?_
    by_cases ht : P' t
    · obtain ⟨i, hi, e⟩ := h.sur t ht
      rw [← e, ← h.score i hi]; exact Finset.le_sup (f := s) (Finset.mem_univ _)
    · rw [h.hid' t ht]; exact bot_le

/-- Matched families have the same sums of any term that vanishes on masked positions. -/
theorem Match.sum (h : Match s s' v v' P P' pos) (f : EReal → EReal → EReal) (hf : ∀ x, f ⊥ x = 0) :
    ∑ i, f (s i) (v i) = ∑ t, f (s' t) (v' t) := by
  classical
  have e1 : ∑ i, f (s i) (v i) = ∑ i ∈ Finset.univ.filter P, f (s i) (v i) := by
    symm; refine Finset.sum_subset (Finset.filter_subset _ _) fun i _ hi => ?_
    have hi : ¬ P i := fun hp => hi (Finset.mem_filter.mpr ⟨Finset.mem_univ _, hp⟩)
    rw [h.hid i hi, hf]
  have e2 : ∑ t, f (s' t) (v' t) = ∑ t ∈ Finset.univ.filter P', f (s' t) (v' t) := by
    symm; refine Finset.sum_subset (Finset.filter_subset _ _) fun i _ hi => ?_
    have hi : ¬ P' i := fun hp => hi (Finset.mem_filter.mpr ⟨Finset.mem_univ _, hp⟩)
    rw [h.hid' i hi, hf]
  rw [e1, e2]
  refine Finset.sum_bij (fun i _ => pos i) ?_ ?_ ?_ ?_
  · intro i hi
    exact Finset.mem_filter.mpr ⟨Finset.mem_univ _, h.vis i (Finset.mem_filter.mp hi).2⟩
  · intro i hi j hj e
    exact h.inj i j (Finset.mem_filter.mp hi).2 (Finset.mem_filter.mp hj).2 e
  · intro t ht
    obtain ⟨i, hi, e⟩ := h.sur t (Finset.mem_filter.mp ht).2
    exact ⟨i, Finset.mem_filter.mpr ⟨Finset.mem_univ _, hi⟩, e⟩
  · intro i hi
    have hi := (Finset.mem_filter.mp hi).2
    rw [h.score i hi, h.col i hi]

/-- Matched families have the same largest score. -/
theorem Match.top (h : Match s s' v v' P P' pos) (sn : EReal) : Attend.top s sn = Attend.top s' sn := by
  unfold Attend.top; rw [h.fold]

/-- Matched families weigh a score alike. -/
theorem Match.wt (h : Match s s' v v' P P' pos) (sn x : EReal) : Attend.wt s sn x = Attend.wt s' sn x := by
  unfold Attend.wt; rw [h.top]

/-- Matched families have the same sum of weights. -/
theorem Match.den (h : Match s s' v v' P P' pos) (sn : EReal) : Attend.den s sn = Attend.den s' sn := by
  unfold Attend.den
  rw [h.sum (fun x _ => Attend.wt s sn x) (fun _ => wt_bot s sn), h.wt]
  simp only [h.wt]

/-- Matched families have the same cached part. -/
theorem Match.ctx (h : Match s s' v v' P P' pos) {k : EReal} (hk : 0 ≤ k) (c sn vs : EReal) :
    Attend.ctx k c s sn v vs = Attend.ctx k c s' sn v' vs := by
  unfold Attend.ctx
  rw [h.den, h.sum (fun x y => min (Attend.wt s sn x * k) k * y)
    (fun y => by rw [wt_bot, zero_mul, min_eq_left hk, zero_mul])]
  simp only [h.wt]

/-- Matched families have the same output. -/
theorem Match.out (h : Match s s' v v' P P' pos) {k : EReal} (hk : 0 ≤ k) (c sn vs vn : EReal) :
    Attend.out k c s sn v vs vn = Attend.out k c s' sn v' vs vn := by
  unfold Attend.out
  rw [h.ctx hk, h.wt, h.den]

end Cert.Proof.Attend
-- ==== Proof.KVal.lean ====
/- One row's attention over the reals: what the kernel's row payloads are at an index. -/
module

public import proofs.«01_k».proof.Proof.Row
public import proofs.«01_k».proof.Proof.Attend
public import Idealize.ShloMosaic.Lib.Pointwise

@[expose] public section

set_option maxRecDepth 16384

noncomputable section

namespace Cert.Proof.KernelIdeal

open Cert.KernelIdeal Cert.KernelIdeal.Gen
open Idealize.ShloMosaic

/-- The scale of the scores. -/
def cs : EReal := Ideal.ofBits .f32 0x3DA1E89B#32
/-- The scale and the cap of the weights' codes. -/
def ck : EReal := Ideal.ofBits .f32 0x43E00000#32
/-- The scale that takes the codes' products back. -/
def cc : EReal := Ideal.ofBits .f32 0x3B124925#32

/-- The query of head `j` of a group, from the two halves it is kept in. -/
def qv (qa qb : Vec Ideal S8x128 .f32) (j : Fin 8) (e : Fin 160) : EReal :=
  if h : e.val < 128 then qa (ix2 j ⟨e.val, h⟩) else qb (ix2 j ⟨e.val - 128, by omega⟩)

/-- The query joined from its halves, at an index. -/
theorem pay3_at (qa qb : Vec Ideal S8x128 .f32) (j : Fin 8) (e : Fin 160) :
    k0_pay3 (F := Ideal) qa qb (ix2 j e) = qv qa qb j e := by
  pointwise [k0_pay3, qv]

/-- The score of the newest position. -/
def sNew (q : Fin 160 → EReal) (kn : Fin 160 → EReal) : EReal := cs * ∑ e, q e * kn e

/-- The newest position's score, as the kernel computes it. -/
theorem pay4_at (qa qb : Vec Ideal S8x128 .f32) (kn : Vec Ideal S1x1x160 .f32) (j : Fin 8) (z : Fin 1) :
    k0_pay4 (F := Ideal) qa qb kn (ix2 j z) = sNew (qv qa qb j) (fun e => kn (ix3 0 0 e)) := by
  pointwise [k0_pay4, sNew, cs, pay3_at]

/-- The row's scores over the staged lanes: `⊥` where the mask is off. -/
def sRow (mk : IVec S8x1280 1) (q : Fin 160 → EReal) (K : Vec Ideal S1x160x1280 .bf16) (j : Fin 8) (l : Fin 1280) : EReal :=
  if mk (ix2 j l) = 1#1 then cs * ∑ e, q e * K (ix3 0 e l) else ⊥

/-- The pattern of negative infinity. -/
theorem ofBits_bot : Ideal.ofBits .f32 0xFF800000#32 = ⊥ := by
  simp [Ideal.ofBits, Ideal.ieee]

/-- The masked scores, as the kernel computes them. -/
theorem pay5_at (mk : IVec S8x1280 1) (qa qb : Vec Ideal S8x128 .f32) (K : Vec Ideal S1x160x1280 .bf16) (j : Fin 8)
    (l : Fin 1280) : k0_pay5 (F := Ideal) mk qa qb K (ix2 j l) = sRow mk (qv qa qb j) K j l := by
  pointwise [k0_pay5, sRow, cs, pay3_at, ofBits_bot]
  rfl

variable (mk : IVec S8x1280 1) (qa qb : Vec Ideal S8x128 .f32) (kn : Vec Ideal S1x1x160 .f32)
  (K : Vec Ideal S1x160x1280 .bf16) (V : Vec Ideal S1x160x1280 .fp8e4m3) (vs vn : Vec Ideal S1x1x160 .f32) (j : Fin 8)

/-- The largest score, as the kernel computes it. -/
theorem pay6_at (z : Fin 1) : k0_pay6 (F := Ideal) mk qa qb kn K (ix2 j z)
    = Attend.top (sRow mk (qv qa qb j) K j) (sNew (qv qa qb j) (fun e => kn (ix3 0 0 e))) := by
  pointwise [k0_pay6, Attend.top, pay4_at, pay5_at, ofBits_bot]

/-- The weights, as the kernel computes them. -/
theorem pay7_at (l : Fin 1280) : k0_pay7 (F := Ideal) mk qa qb kn K (ix2 j l)
    = Attend.wt (sRow mk (qv qa qb j) K j) (sNew (qv qa qb j) (fun e => kn (ix3 0 0 e))) (sRow mk (qv qa qb j) K j l) := by
  pointwise [k0_pay7, Attend.wt, pay5_at, pay6_at]

/-- The newest position's weight, as the kernel computes it. -/
theorem pay8_at (z : Fin 1) : k0_pay8 (F := Ideal) mk qa qb kn K (ix2 j z)
    = Attend.wt (sRow mk (qv qa qb j) K j) (sNew (qv qa qb j) (fun e => kn (ix3 0 0 e)))
        (sNew (qv qa qb j) (fun e => kn (ix3 0 0 e))) := by
  pointwise [k0_pay8, Attend.wt, pay4_at, pay6_at]

/-- The sum of the weights, as the kernel computes it. -/
theorem pay9_at (z : Fin 1) : k0_pay9 (F := Ideal) mk qa qb kn K (ix2 j z)
    = Attend.den (sRow mk (qv qa qb j) K j) (sNew (qv qa qb j) (fun e => kn (ix3 0 0 e))) := by
  pointwise [k0_pay9, Attend.den, pay7_at, pay8_at]

/-- The weights' codes, as the kernel computes them. -/
theorem pay10_at (l : Fin 1280) : k0_pay10 (F := Ideal) mk qa qb kn K (ix2 j l)
    = min (Attend.wt (sRow mk (qv qa qb j) K j) (sNew (qv qa qb j) (fun e => kn (ix3 0 0 e)))
        (sRow mk (qv qa qb j) K j l) * ck) ck := by
  pointwise [k0_pay10, ck, pay7_at]

/-- The cached part of a row, at an index. -/
theorem rowC_at (d : Fin 160) : rowC (F := Ideal) mk qa qb kn K V vs (ix2 j d)
    = Attend.ctx ck cc (sRow mk (qv qa qb j) K j) (sNew (qv qa qb j) (fun e => kn (ix3 0 0 e)))
        (fun l => V (ix3 0 d l)) (vs (ix3 0 0 d)) := by
  pointwise [rowC, k0_pay45, k0_pay44, Attend.ctx, cc, pay9_at, pay10_at]

/-- A row's output, at an index. -/
theorem rowO_at (d : Fin 160) : rowO (F := Ideal) mk qa qb kn K V vs vn (ix2 j d)
    = Attend.out ck cc (sRow mk (qv qa qb j) K j) (sNew (qv qa qb j) (fun e => kn (ix3 0 0 e)))
        (fun l => V (ix3 0 d l)) (vs (ix3 0 0 d)) (vn (ix3 0 0 d)) := by
  pointwise [rowO, k0_pay46, k0_pay45, k0_pay44, Attend.out, Attend.ctx, cc, pay8_at, pay9_at, pay10_at]

end Cert.Proof.KernelIdeal
-- ==== Proof.KMask.lean ====
/- The kernel's mask over the staged lanes, in numbers. -/
module

public import proofs.«01_k».proof.Proof.Leave
public import Idealize.ShloMosaic.Lib.Pointwise

@[expose] public section

set_option maxRecDepth 16384

noncomputable section

namespace Cert.Proof.KernelIdeal

open Cert.KernelIdeal Cert.KernelIdeal.Gen
open Idealize.ShloMosaic

/-- A cached position the newest one may look at: it is written, and it is one of the first four or one of the last 1024. -/
def Seen (w : BitVec 32) (t : ℕ) : Prop := (t : ℤ) < w.toInt ∧ (t < 4 ∨ (w - 1024#32).toInt ≤ t)

/-- The lanes the kernel keeps: of the window the seen positions from the fourth on, of the sink the seen first four. -/
def Kept (w : BitVec 32) (l : ℕ) : Prop := Seen w (srcPos w l) ∧ (l < 1152 ↔ 4 ≤ srcPos w l)

/-- The start of the window as a word. -/
theorem mult1_eq (w : BitVec 32) : k0_mult1 w = BitVec.ofNat 32 (start w) := by
  apply BitVec.eq_of_toNat_eq
  have := start_le w
  rw [mult1_toNat, BitVec.toNat_ofNat]; omega

/-- A lane's number. -/
theorem lanes_at (j : Fin 8) (l : Fin 1280) : lanes (ix2 j l) = BitVec.ofNat 32 l.val := by
  pointwise [lanes]

/-- The mask at a lane, as the scalars it is made of. -/
theorem mask_scalars (v : IVec S8x1280 32) (w : BitVec 32) (i : S8x1280.Idx) : mask (F := Ideal) v w i
    = IntOp.andi
      (IntOp.cmpi .sge
        (Scalar.select (IntOp.cmpi .slt (v i) 1152#32) (v i + k0_mult1 w) (v i - 1152#32))
        (Scalar.select (IntOp.cmpi .slt (v i) 1152#32) (Scalar.maxsi (w - 1024#32) 4#32) 0#32))
      (IntOp.cmpi .slt
        (Scalar.select (IntOp.cmpi .slt (v i) 1152#32) (v i + k0_mult1 w) (v i - 1152#32))
        (Scalar.select (IntOp.cmpi .slt (v i) 1152#32) w (Scalar.minsi w 4#32))) := by
  rfl

/-- A small number's word reads back as the number. -/
theorem toInt_small {n : ℕ} (h : n < 2147483648) : (BitVec.ofNat 32 n).toInt = n := by
  have e : (BitVec.ofNat 32 n).toNat = n := by rw [BitVec.toNat_ofNat]; omega
  rw [BitVec.toInt_eq_toNat_of_lt (by omega), e]

/-- The larger of two words, in numbers. -/
theorem toInt_max (a b : BitVec 32) : (Scalar.maxsi a b).toInt = max a.toInt b.toInt := by
  have h := Affine.maxsi (Affine.word a) (Affine.word b) rfl
  unfold Affine.IsInt at h
  exact h

/-- The smaller of two words, in numbers. -/
theorem toInt_min (a b : BitVec 32) : (Scalar.minsi a b).toInt = min a.toInt b.toInt := by
  have h := Affine.minsi (Affine.word a) (Affine.word b) rfl
  unfold Affine.IsInt at h
  exact h

/-- The mask keeps exactly the lanes of `Kept`. -/
theorem mask_kept (w : BitVec 32) (j : Fin 8) (l : Fin 1280) : mask (F := Ideal) lanes w (ix2 j l) = 1#1 ↔ Kept w l.val := by
  have hs := start_le w
  have hl := l.isLt
  have e0 : (BitVec.ofNat 32 l.val).toInt = l.val := toInt_small (by omega)
  have e1 : (1152#32 : BitVec 32).toInt = 1152 := by decide
  have e4 : (4#32 : BitVec 32).toInt = 4 := by decide
  have ez : (0#32 : BitVec 32).toInt = 0 := by decide
  rw [mask_scalars, lanes_at, mult1_eq]
  unfold Kept Seen srcPos
  by_cases h : l.val < 1152
  · have hc : IntOp.cmpi .slt (BitVec.ofNat 32 l.val) 1152#32 = 1#1 := IntOp.cmpi_slt.mpr (by rw [e0, e1]; omega)
    have ea : (BitVec.ofNat 32 l.val + BitVec.ofNat 32 (start w)).toInt = (start w + l.val : ℕ) := by
      rw [← BitVec.ofNat_add, toInt_small (by omega)]; omega
    have hc' : (IntOp.cmpi .slt (BitVec.ofNat 32 l.val) 1152#32 = 1) := hc
    simp only [if_pos hc', Scalar.select, IntOp.andi_eq_one, IntOp.cmpi_sge, IntOp.cmpi_slt, toInt_max, ea, e4, if_pos h]
    omega
  · have hc : ¬ IntOp.cmpi .slt (BitVec.ofNat 32 l.val) 1152#32 = 1#1 := fun hh => h (by have := IntOp.cmpi_slt.mp hh; rw [e0, e1] at this; omega)
    have ea : (BitVec.ofNat 32 l.val - 1152#32).toInt = (l.val - 1152 : ℕ) := by
      have : BitVec.ofNat 32 l.val - 1152#32 = BitVec.ofNat 32 (l.val - 1152) := by
        apply BitVec.eq_of_toNat_eq
        rw [BitVec.toNat_sub, BitVec.toNat_ofNat, BitVec.toNat_ofNat, BitVec.toNat_ofNat]; omega
      rw [this, toInt_small (by omega)]
    have hc' : ¬ (IntOp.cmpi .slt (BitVec.ofNat 32 l.val) 1152#32 = 1) := hc
    simp only [if_neg hc', Scalar.select, IntOp.andi_eq_one, IntOp.cmpi_sge, IntOp.cmpi_slt, toInt_min, ea, e4, ez, if_neg h]
    omega

/-- Different kept lanes hold different positions. -/
theorem kept_inj (w : BitVec 32) {l l' : ℕ} (h : Kept w l) (h' : Kept w l') (e : srcPos w l = srcPos w l') : l = l' := by
  have hk := h.2; have hk' := h'.2
  rw [← e] at hk'
  unfold srcPos at *
  split at e <;> split at e <;> simp_all <;> omega

/-- Every seen position of the cache is in a kept lane. -/
theorem kept_sur (w : BitVec 32) {t : ℕ} (ht : t < 10240) (h : Seen w t) : ∃ l : Fin 1280, Kept w l.val ∧ srcPos w l.val = t := by
  unfold Seen at h
  by_cases h4 : t < 4
  · refine ⟨⟨1152 + t, by omega⟩, ?_⟩
    have e : srcPos w (1152 + t) = t := by unfold srcPos; rw [if_neg (by omega)]; omega
    refine ⟨⟨by rw [e]; exact h, ?_⟩, e⟩
    show 1152 + t < 1152 ↔ 4 ≤ srcPos w (1152 + t)
    rw [e]; omega
  · have hw : w.toInt - 1024 ≤ (w - 1024#32).toInt := by
      have := BitVec.toInt_lt (x := w)
      rw [BitVec.toInt_sub]
      have : (1024#32 : BitVec 32).toInt = 1024 := by decide
      rw [this]
      simp only [Int.bmod] at *; omega
    have hs : start w ≤ t ∧ t < start w + 1152 := by
      unfold start; omega
    refine ⟨⟨t - start w, by omega⟩, ?_⟩
    have e : srcPos w (t - start w) = t := by unfold srcPos; rw [if_pos (by omega)]; omega
    refine ⟨⟨by rw [e]; exact h, ?_⟩, e⟩
    show t - start w < 1152 ↔ 4 ≤ srcPos w (t - start w)
    rw [e]; omega

end Cert.Proof.KernelIdeal
-- ==== Proof.KSpec.lean ====
/- The kernel's two results at an index, in terms of the arrays it reads. -/
module

public import proofs.«01_k».proof.Proof.KVal
public import proofs.«01_k».proof.Proof.KMask

@[expose] public section

set_option maxRecDepth 16384

noncomputable section

namespace Cert.Proof.KernelIdeal

open Cert.KernelIdeal Cert.KernelIdeal.Gen
open Idealize.ShloMosaic Idealize.ShloMosaic.TcCoe

/-- A joined block at an index. -/
theorem pay228_at (a : Vec Ideal S14x128 .f32) (b : Vec Ideal S14x32 .f32) (r : Fin 14) (d : Fin 160) :
    k0_pay228 (F := Ideal) a b (ix2 r d) = if h : d.val < 128 then a (ix2 r ⟨d.val, h⟩) else b (ix2 r ⟨d.val - 128, by omega⟩) := by
  pointwise [k0_pay228]

/-- The same for the second result. -/
theorem pay229_at (a : Vec Ideal S14x128 .f32) (b : Vec Ideal S14x32 .f32) (r : Fin 14) (d : Fin 160) :
    k0_pay229 (F := Ideal) a b (ix2 r d) = if h : d.val < 128 then a (ix2 r ⟨d.val, h⟩) else b (ix2 r ⟨d.val - 128, by omega⟩) := by
  pointwise [k0_pay229]

/-- The first 128 lanes. -/
theorem headL_at (x : FVec Ideal S8x160 .f32) (j : Fin 8) (d : Fin 128) :
    headL (F := Ideal) x (ix2 j d) = x (ix2 j ⟨d.val, by omega⟩) := by
  pointwise [headL]

/-- The other 32 lanes. -/
theorem tailL_at (x : FVec Ideal S8x160 .f32) (j : Fin 8) (d : Fin 128) (h : d.val < 32) :
    tailL (F := Ideal) x (ix2 j d) = x (ix2 j ⟨128 + d.val, by omega⟩) := by
  pointwise [tailL, h]

/-- The first 128 lanes of a head of the queries. -/
theorem pay82_at (x : Vec Ideal S14x160 .bf16) (r : Fin 14) (d : Fin 128) :
    k0_pay82 (F := Ideal) x (ix2 r d) = x (ix2 r ⟨d.val, by omega⟩) := by
  pointwise [k0_pay82, k0_pay81]

/-- The other 32 lanes of a head of the queries. -/
theorem pay83_at (x : Vec Ideal S14x160 .bf16) (r : Fin 14) (d : Fin 32) :
    k0_pay83 (F := Ideal) x (ix2 r d) = x (ix2 r ⟨128 + d.val, by omega⟩) := by
  pointwise [k0_pay83, k0_pay81]

/-- A widened plane. -/
theorem pay209_at (x : Vec Ideal S1x14x160 .bf16) (z : Fin 1) (r : Fin 14) (d : Fin 160) :
    k0_pay209 (F := Ideal) x (ix3 z r d) = x (ix3 0 r d) := by
  pointwise [k0_pay209]

/-- A copied plane. -/
theorem pay225_at (x : Vec Ideal S1x14x160 .f32) (z : Fin 1) (r : Fin 14) (d : Fin 160) :
    k0_pay225 (F := Ideal) x (ix3 z r d) = x (ix3 0 r d) := by
  obtain rfl : z = 0 := Subsingleton.elim _ _
  pointwise [k0_pay225]

/-- Row `b` as a trip of the row loops. -/
def trip (b : Fin 14) : Row := ⟨b.val, lt_of_lt_of_eq b.isLt trips1.symm⟩

/-- Head `j` of group `g`. -/
def hd (g : Fin 5) (j : Fin 8) : Fin 40 := ⟨8 * g.val + j.val, by omega⟩

/-- The column of coordinate `d` of head `j` of group `g`. -/
def col (g : Fin 5) (j : Fin 8) (d : Fin 160) : Fin 6400 := ⟨160 * (8 * g.val + j.val) + d.val, by omega⟩

/-- The row of a group's coordinate. -/
def grow (g : Fin 5) (d : Fin 160) : Fin 800 := ⟨160 * g.val + d.val, by omega⟩

/-- Where a head's block lies in a result. -/
theorem rC_emb (g : Fin 5) (j : Fin 8) (b : Fin 14) (d : Fin 160) :
    (rC (hd g j)).emb (ix2 b d) = ix2 b (col g j d) := by
  funext a; apply Fin.ext
  match a with
  | 0 => show 0 + 1 * b.val = b.val; omega
  | 1 => show 160 * (8 * g.val + j.val) + 1 * d.val = 160 * (8 * g.val + j.val) + d.val; omega

/-- Where the first lanes of a head's row lie. -/
theorem rA_emb (g : Fin 5) (j : Fin 8) (b : Fin 14) (d : Fin 128) :
    (rA (hd g j)).emb (ix2 b d) = hr (trip b) g (ix2 j d) := by
  funext a; apply Fin.ext
  match a with
  | 0 => show 17 * (8 * g.val + j.val) + 1 * b.val = 136 * g.val + b.val + 17 * j.val; omega
  | 1 => show 0 + 1 * d.val = d.val; omega

/-- Where the other lanes of a head's row lie. -/
theorem rB_emb (g : Fin 5) (j : Fin 8) (b : Fin 14) (d : Fin 32) :
    (rB (hd g j)).emb (ix2 b d) = hr (trip b) g (ix2 j ⟨d.val, by omega⟩) := by
  funext a; apply Fin.ext
  match a with
  | 0 => show 17 * (8 * g.val + j.val) + 1 * b.val = 136 * g.val + b.val + 17 * j.val; omega
  | 1 => show 0 + 1 * d.val = d.val; omega

/-- Where a plane lies. -/
theorem rG_emb (g : Fin 5) (z : Fin 1) (b : Fin 14) (d : Fin 160) :
    (rG g).emb (ix3 z b d) = ix3 g b d := by
  funext a; apply Fin.ext
  match a with
  | 0 => show g.val + 1 * z.val = g.val; omega
  | 1 => show 0 + 1 * b.val = b.val; omega
  | 2 => show 0 + 1 * d.val = d.val; omega

section Reads
variable (c : Dev nD)

/-- The first lanes of the queries. -/
theorem qa_at (fX : Bf (F := Ideal) c sX) (f : Bf (F := Ideal) c sQa) (h : QaOk c fX f) (b : Fin 14) (g : Fin 5) (j : Fin 8)
    (d : Fin 128) : qrow (F := Ideal) f (trip b) g (ix2 j d) = (fX : S14x6400.Idx → EReal) (ix2 b (col g j ⟨d.val, by omega⟩)) := by
  have h := h (hd g j) (ix2 b d)
  rw [pay82_at, rA_emb] at h
  refine h.trans ?_
  show fX ((rC (hd g j)).emb (ix2 b _)) = _
  rw [rC_emb]

/-- The other lanes of the queries. -/
theorem qb_at (fX : Bf (F := Ideal) c sX) (f : Bf (F := Ideal) c sQb) (h : QbOk c fX f) (b : Fin 14) (g : Fin 5) (j : Fin 8)
    (d : Fin 128) (hd' : d.val < 32) :
    qrow (F := Ideal) f (trip b) g (ix2 j d) = (fX : S14x6400.Idx → EReal) (ix2 b (col g j ⟨128 + d.val, by omega⟩)) := by
  have h := h (hd g j) (ix2 b ⟨d.val, hd'⟩)
  rw [pay83_at, rB_emb] at h
  refine h.trans ?_
  show fX ((rC (hd g j)).emb (ix2 b _)) = _
  rw [rC_emb]

/-- A head's query. -/
theorem qv_at (fX : Bf (F := Ideal) c sX) (fa : Bf (F := Ideal) c sQa) (fb : Bf (F := Ideal) c sQb) (ha : QaOk c fX fa)
    (hb : QbOk c fX fb) (b : Fin 14) (g : Fin 5) (j : Fin 8) :
    qv (qrow (F := Ideal) fa (trip b) g) (qrow (F := Ideal) fb (trip b) g) j
      = fun e => (fX : S14x6400.Idx → EReal) (ix2 b (col g j e)) := by
  funext e
  unfold qv
  split
  · rw [qa_at c fX fa ha]
  · rename_i he
    have := e.isLt
    rw [qb_at c fX fb hb _ _ _ _ (by show e.val - 128 < 32; omega)]
    congr 3; apply Fin.ext; show 128 + (e.val - 128) = e.val; omega

/-- A row of a widened parameter. -/
theorem kf_at (fKn : Bf (F := Ideal) c sKn) (f : Bf (F := Ideal) c sKf) (h : KfOk c fKn f) (b : Fin 14) (g : Fin 5) (d : Fin 160) :
    kvRow (F := Ideal) f (trip b) g (ix3 0 0 d) = (fKn : S5x14x160.Idx → EReal) (ix3 g b d) := by
  have h := h g (ix3 0 b d)
  rw [pay209_at, rG_emb] at h
  refine Eq.trans (congrArg f ?_) (h.trans ?_)
  · rfl
  · show fKn ((rG g).emb (ix3 0 b d)) = _
    rw [rG_emb]

/-- A row of the other widened parameter. -/
theorem vf_at (fVn : Bf (F := Ideal) c sVn) (f : Bf (F := Ideal) c sVf) (h : VfOk c fVn f) (b : Fin 14) (g : Fin 5) (d : Fin 160) :
    kvRow (F := Ideal) f (trip b) g (ix3 0 0 d) = (fVn : S5x14x160.Idx → EReal) (ix3 g b d) := by
  have h := h g (ix3 0 b d)
  rw [pay209_at, rG_emb] at h
  refine Eq.trans (congrArg f ?_) (h.trans ?_)
  · rfl
  · show fVn ((rG g).emb (ix3 0 b d)) = _
    rw [rG_emb]

/-- A row of the scales. -/
theorem sf_at (fVs : Bf (F := Ideal) c sVs) (f : Bf (F := Ideal) c sSf) (h : SfOk c fVs f) (b : Fin 14) (g : Fin 5) (d : Fin 160) :
    kvRow (F := Ideal) f (trip b) g (ix3 0 0 d) = (fVs : S5x14x160.Idx → EReal) (ix3 g b d) := by
  have h := h g (ix3 0 b d)
  rw [pay225_at, rG_emb] at h
  refine Eq.trans (congrArg f ?_) (h.trans ?_)
  · rfl
  · show fVs ((rG g).emb (ix3 0 b d)) = _
    rw [rG_emb]

/-- A staged lane. -/
theorem staged_at {e : EltTy} (X : S14x800x10240.Idx → Elt Ideal e) (ln : S14.Idx → BitVec 32) (b : Fin 14) (g : Fin 5) (d : Fin 160)
    (l : Fin 1280) : blk (F := Ideal) (staged X ln) (trip b) g (ix3 0 d l)
      = X (ix3 b (grow g d) ⟨srcPos (ln (ix1 b)) l.val, srcPos_lt _ l.isLt⟩) := rfl

instance (w : BitVec 32) (t : ℕ) : Decidable (Seen w t) := by unfold Seen; infer_instance

/-- The scores over the whole cache: `⊥` at the positions not seen. -/
def fullRow (w : BitVec 32) (q : Fin 160 → EReal) (Kc : Fin 10240 → Fin 160 → EReal) (t : Fin 10240) : EReal :=
  if Seen w t.val then cs * ∑ e, q e * Kc t e else ⊥

/-- The cap of the codes is a nonnegative number. -/
theorem ck_nonneg : 0 ≤ ck := by
  have hb : BitVec.extractLsb' 31 1 1138753536#32 = 0#1 := by decide
  have hn : 1138753536 >>> 23 % 256 = 135 := by decide
  simp only [ck, Ideal.ofBits, Ideal.ieee]
  norm_num [hb, hn]

/-- The staged lanes a row keeps hold what the seen positions of the cache hold. -/
theorem row_match (w : BitVec 32) (q : Fin 160 → EReal) (j : Fin 8) (Kc Vc : Fin 10240 → Fin 160 → EReal) (d : Fin 160)
    (K : Vec Ideal S1x160x1280 .bf16) (V : Vec Ideal S1x160x1280 .fp8e4m3)
    (hK : ∀ e (l : Fin 1280), K (ix3 0 e l) = Kc ⟨srcPos w l.val, srcPos_lt _ l.isLt⟩ e)
    (hV : ∀ e (l : Fin 1280), V (ix3 0 e l) = Vc ⟨srcPos w l.val, srcPos_lt _ l.isLt⟩ e) :
    Attend.Match (sRow (mask (F := Ideal) lanes w) q K j) (fullRow w q Kc) (fun l => V (ix3 0 d l)) (fun t => Vc t d)
      (fun l => Kept w l.val) (fun t => Seen w t.val) (fun l => ⟨srcPos w l.val, srcPos_lt _ l.isLt⟩) where
  vis l h := h.1
  score l h := by
    unfold sRow fullRow
    rw [if_pos ((mask_kept w j l).mpr h), if_pos h.1]
    simp only [hK]
  col l h := hV d l
  hid l h := by
    unfold sRow
    rw [if_neg fun hm => h ((mask_kept w j l).mp hm)]
  hid' t h := by unfold fullRow; rw [if_neg h]
  inj l l' h h' e := Fin.ext (kept_inj w h h' (congrArg Fin.val e))
  sur t h := by
    obtain ⟨l, hl, e⟩ := kept_sur w t.isLt h
    exact ⟨l, hl, Fin.ext e⟩

variable (fLen : Bf (F := Ideal) c hLen) (fX : Bf (F := Ideal) c hX) (fKn : Bf (F := Ideal) c hKn) (fVn : Bf (F := Ideal) c hVn)
  (fVs : Bf (F := Ideal) c hVs) (fK : Bf (F := Ideal) c hK) (fV : Bf (F := Ideal) c hV)

/-- The row's cached part, from the arrays. -/
def kCtx (b : Fin 14) (g : Fin 5) (j : Fin 8) (d : Fin 160) : EReal :=
  Attend.ctx ck cc
    (fullRow ((fLen : S14.Idx → BitVec 32) (ix1 b)) (fun e => (fX : S14x6400.Idx → EReal) (ix2 b (col g j e)))
      (fun t e => (fK : S14x800x10240.Idx → EReal) (ix3 b (grow g e) t)))
    (sNew (fun e => (fX : S14x6400.Idx → EReal) (ix2 b (col g j e))) (fun e => (fKn : S5x14x160.Idx → EReal) (ix3 g b e)))
    (fun t => (fV : S14x800x10240.Idx → EReal) (ix3 b (grow g d) t))
    ((fVs : S5x14x160.Idx → EReal) (ix3 g b d))

/-- The row's output, from the arrays. -/
def kOut (b : Fin 14) (g : Fin 5) (j : Fin 8) (d : Fin 160) : EReal :=
  Attend.out ck cc
    (fullRow ((fLen : S14.Idx → BitVec 32) (ix1 b)) (fun e => (fX : S14x6400.Idx → EReal) (ix2 b (col g j e)))
      (fun t e => (fK : S14x800x10240.Idx → EReal) (ix3 b (grow g e) t)))
    (sNew (fun e => (fX : S14x6400.Idx → EReal) (ix2 b (col g j e))) (fun e => (fKn : S5x14x160.Idx → EReal) (ix3 g b e)))
    (fun t => (fV : S14x800x10240.Idx → EReal) (ix3 b (grow g d) t))
    ((fVs : S5x14x160.Idx → EReal) (ix3 g b d)) ((fVn : S5x14x160.Idx → EReal) (ix3 g b d))

/-- What the row loops store of a row's cached part. -/
theorem gC_at (fQa : Bf (F := Ideal) c sQa) (fQb : Bf (F := Ideal) c sQb) (fKf : Bf (F := Ideal) c sKf)
    (fSf : Bf (F := Ideal) c sSf) (h1 : QaOk c fX fQa) (h2 : QbOk c fX fQb) (h3 : KfOk c fKn fKf) (h5 : SfOk c fVs fSf)
    (b : Fin 14) (g : Fin 5) (j : Fin 8) (d : Fin 160) :
    gC (F := Ideal) c fLen fK fV lanes fQa fQb fKf fSf (trip b) g (ix2 j d) = kCtx c fLen fX fKn fVs fK fV b g j d := by
  unfold gC kCtx
  rw [rowC_at, qv_at c fX fQa fQb h1 h2, sf_at c fVs fSf h5]
  simp only [kf_at c fKn fKf h3]
  exact (row_match (lenW c fLen (trip b)) _ j _ (fun t e => (fV : S14x800x10240.Idx → EReal) (ix3 b (grow g e) t)) d _ _
    (fun e l => staged_at fK fLen b g e l) (fun e l => staged_at fV fLen b g e l)).ctx ck_nonneg _ _ _

/-- What the row loops store of a row's output. -/
theorem gO_at (fQa : Bf (F := Ideal) c sQa) (fQb : Bf (F := Ideal) c sQb) (fKf : Bf (F := Ideal) c sKf)
    (fVf : Bf (F := Ideal) c sVf) (fSf : Bf (F := Ideal) c sSf) (h1 : QaOk c fX fQa) (h2 : QbOk c fX fQb) (h3 : KfOk c fKn fKf)
    (h4 : VfOk c fVn fVf) (h5 : SfOk c fVs fSf)
    (b : Fin 14) (g : Fin 5) (j : Fin 8) (d : Fin 160) :
    gO (F := Ideal) c fLen fK fV lanes fQa fQb fKf fVf fSf (trip b) g (ix2 j d) = kOut c fLen fX fKn fVn fVs fK fV b g j d := by
  unfold gO kOut
  rw [rowO_at, qv_at c fX fQa fQb h1 h2, sf_at c fVs fSf h5, vf_at c fVn fVf h4]
  simp only [kf_at c fKn fKf h3]
  exact (row_match (lenW c fLen (trip b)) _ j _ (fun t e => (fV : S14x800x10240.Idx → EReal) (ix3 b (grow g e) t)) d _ _
    (fun e l => staged_at fK fLen b g e l) (fun e l => staged_at fV fLen b g e l)).out ck_nonneg _ _ _ _

/-- A result's element from the two buffers its heads are kept in. -/
theorem joined {G : Fin 160 → EReal} (fa fb : S680x128.Idx → EReal) (b : Fin 14) (g : Fin 5) (j : Fin 8)
    (ha : ∀ d : Fin 128, fa (hr (trip b) g (ix2 j d)) = G ⟨d.val, by omega⟩)
    (hb : ∀ d : Fin 128, ∀ h : d.val < 32, fb (hr (trip b) g (ix2 j d)) = G ⟨128 + d.val, by omega⟩) (d : Fin 160) :
    (if h : d.val < 128 then fa ((rA (hd g j)).emb (ix2 b ⟨d.val, h⟩)) else fb ((rB (hd g j)).emb (ix2 b ⟨d.val - 128, by omega⟩)))
      = G d := by
  split
  · rw [rA_emb, ha]
  · rename_i h
    have := d.isLt
    rw [rB_emb, hb _ (by show d.val - 128 < 32; omega)]
    congr 1; apply Fin.ext; show 128 + (d.val - 128) = d.val; omega

/-- The two results of the kernel, at every index, from the arrays it reads. -/
theorem spec_at (rO : Bf (F := Ideal) c hO) (rS : Bf (F := Ideal) c hC)
    (h : Spec (F := Ideal) c fLen fX fKn fVn fVs fK fV rO rS) (b : Fin 14) (g : Fin 5) (j : Fin 8) (d : Fin 160) :
    (rO : S14x6400.Idx → EReal) (ix2 b (col g j d)) = kOut c fLen fX fKn fVn fVs fK fV b g j d
    ∧ (rS : S14x6400.Idx → EReal) (ix2 b (col g j d)) = kCtx c fLen fX fKn fVs fK fV b g j d := by
  obtain ⟨fQa, fQb, fKf, fVf, fSf, fOa, fOb, fCa, fCb, h1, h2, h3, h4, h5, o1, o2, o3, o4, eO, eC⟩ := h
  have eO := eO (hd g j) (ix2 b d)
  have eC := eC (hd g j) (ix2 b d)
  rw [rC_emb, pay228_at] at eO
  rw [rC_emb, pay229_at] at eC
  refine ⟨eO.trans ?_, eC.trans ?_⟩
  · exact joined (G := fun d => kOut c fLen fX fKn fVn fVs fK fV b g j d) fOa fOb b g j
      (fun d => (o1 (trip b) b.isLt g (ix2 j d)).trans ((headL_at _ j d).trans (gO_at c fLen fX fKn fVn fVs fK fV _ _ _ _ _ h1 h2 h3 h4 h5 b g j _)))
      (fun d hd' => (o2 (trip b) b.isLt g (ix2 j d)).trans ((tailL_at _ j d hd').trans (gO_at c fLen fX fKn fVn fVs fK fV _ _ _ _ _ h1 h2 h3 h4 h5 b g j _))) d
  · exact joined (G := fun d => kCtx c fLen fX fKn fVs fK fV b g j d) fCa fCb b g j
      (fun d => (o3 (trip b) b.isLt g (ix2 j d)).trans ((headL_at _ j d).trans (gC_at c fLen fX fKn fVs fK fV _ _ _ _ h1 h2 h3 h5 b g j _)))
      (fun d hd' => (o4 (trip b) b.isLt g (ix2 j d)).trans ((tailL_at _ j d hd').trans (gC_at c fLen fX fKn fVs fK fV _ _ _ _ h1 h2 h3 h5 b g j _))) d

end Reads

end Cert.Proof.KernelIdeal
-- ==== Proof.KHost.lean ====
/- What the kernel's host operations hand to it, in terms of the arguments. -/
module

public import proofs.«01_k».proof.Proof.KSpec
public import proofs.«01_k».proof.Proof.Launch
public import Idealize.ShloMosaic.Lib.StableHlo.ReadAt

@[expose] public section

set_option maxRecDepth 16384

noncomputable section

namespace Cert.Proof.KernelIdeal

open Cert.KernelIdeal Cert.KernelIdeal.Gen
open Idealize.ShloMosaic Idealize.ShloMosaic.TcCoe

variable (m : (ℓ : Loc nD τ sig) → Buf (Elt Ideal) ℓ) (c : Dev nD)

/-- The lengths are handed over as they are. -/
theorem V_len : V m c main_arg6 = m ((c : Thread nD τ).loc main_arg6) := by
  funext i
  after_reads_at

/-- The queries, one row per batch row. -/
theorem V_x (b : Fin 14) (k : Fin 6400) : V m c main_v0 (ix2 b k)
    = (m ((c : Thread nD τ).loc main_arg0) : S14x1x6400.Idx → EReal) (ix3 b 0 k) := by
  after_reads_at

/-- The newest keys, by groups. -/
theorem V_kn (b : Fin 14) (g : Fin 5) (d : Fin 160) : V m c main_v2 (ix3 g b d)
    = (m ((c : Thread nD τ).loc main_arg1) : S14x1x5x160.Idx → EReal) (ix4 b 0 g d) := by
  after_reads_at

/-- The newest values, by groups. -/
theorem V_vn (b : Fin 14) (g : Fin 5) (d : Fin 160) : V m c main_v4 (ix3 g b d)
    = (m ((c : Thread nD τ).loc main_arg2) : S14x1x5x160.Idx → EReal) (ix4 b 0 g d) := by
  after_reads_at

/-- The scales of the codes, by groups. -/
theorem V_vs (b : Fin 14) (g : Fin 5) (d : Fin 160) : V m c main_v5 (ix3 g b d)
    = (m ((c : Thread nD τ).loc main_arg5) : S14x5x160.Idx → EReal) (ix3 b g d) := by
  after_reads_at

/-- The cached keys, positions last. -/
theorem V_k (b : Fin 14) (g : Fin 5) (d : Fin 160) (t : Fin 10240) : V m c main_v7 (ix3 b (grow g d) t)
    = (m ((c : Thread nD τ).loc main_arg3) : S14x10240x5x160.Idx → EReal) (ix4 b t g d) := by
  after_reads_at
  have eg : ∀ h, (⟨(grow g d).val / 160, h⟩ : Fin 5) = g := fun h => Fin.ext (by show (160 * g.val + d.val) / 160 = g.val; omega)
  have ed : ∀ h, (⟨(grow g d).val % 160, h⟩ : Fin 160) = d := fun h => Fin.ext (by show (160 * g.val + d.val) % 160 = d.val; omega)
  rw [eg, ed]

/-- The cached values' codes, positions last. -/
theorem V_v (b : Fin 14) (g : Fin 5) (d : Fin 160) (t : Fin 10240) : V m c main_v9 (ix3 b (grow g d) t)
    = (m ((c : Thread nD τ).loc main_arg4) : S14x10240x5x160.Idx → EReal) (ix4 b t g d) := by
  after_reads_at
  have eg : ∀ h, (⟨(grow g d).val / 160, h⟩ : Fin 5) = g := fun h => Fin.ext (by show (160 * g.val + d.val) / 160 = g.val; omega)
  have ed : ∀ h, (⟨(grow g d).val % 160, h⟩ : Fin 160) = d := fun h => Fin.ext (by show (160 * g.val + d.val) % 160 = d.val; omega)
  rw [eg, ed]

end Cert.Proof.KernelIdeal
-- ==== Proof.Target.lean ====
/- What both programs compute: each number of the two results, from the arguments. -/
module

public import proofs.«01_k».proof.Proof.KSpec

@[expose] public section

noncomputable section

namespace Cert.Proof

open Cert.KernelIdeal
open Cert.Proof.KernelIdeal (cs ck cc sNew fullRow col)
open Idealize.ShloMosaic

variable (x : S14x1x6400.Idx → EReal) (kn vn : S14x1x5x160.Idx → EReal) (K C : S14x10240x5x160.Idx → EReal)
  (vs : S14x5x160.Idx → EReal) (ln : S14.Idx → BitVec 32) (b : Fin 14) (g : Fin 5) (j : Fin 8) (d : Fin 160)

/-- The scores of head `j` of group `g` in batch row `b` against the cached keys: the scaled product where the position
    is seen, minus infinity elsewhere. -/
def rowScore : Fin 10240 → EReal :=
  fullRow (ln (ix1 b)) (fun e => x (ix3 b 0 (col g j e))) (fun t e => K (ix4 b t g e))

/-- The score of the same head against the newest key. -/
def newScore : EReal := sNew (fun e => x (ix3 b 0 (col g j e))) (fun e => kn (ix4 b 0 g e))

/-- Coordinate `d` of that head's output. -/
def outOf : EReal :=
  Attend.out ck cc (rowScore x K ln b g j) (newScore x kn b g j) (fun t => C (ix4 b t g d)) (vs (ix3 b g d)) (vn (ix4 b 0 g d))

/-- Coordinate `d` of the cached part of that head's output. -/
def ctxOf : EReal :=
  Attend.ctx ck cc (rowScore x K ln b g j) (newScore x kn b g j) (fun t => C (ix4 b t g d)) (vs (ix3 b g d))

/-- The group of a column. -/
def colG (k : Fin 6400) : Fin 5 := ⟨k.val / 1280, by omega⟩
/-- The head of a column within its group. -/
def colJ (k : Fin 6400) : Fin 8 := ⟨k.val / 160 % 8, by omega⟩
/-- The coordinate of a column within its head. -/
def colD (k : Fin 6400) : Fin 160 := ⟨k.val % 160, by omega⟩

/-- A column is that of its group, head and coordinate. -/
theorem col_split (k : Fin 6400) : col (colG k) (colJ k) (colD k) = k :=
  Fin.ext (by show 160 * (8 * (k.val / 1280) + k.val / 160 % 8) + k.val % 160 = k.val; omega)

/-- An index of a result is a batch row and a column. -/
theorem idx_split (i : S14x6400.Idx) : ix2 (i 0) (i 1) = i := by
  funext a
  match a with
  | 0 => rfl
  | 1 => rfl

/-- The output at a batch row and a column. -/
def outAt (k : Fin 6400) : EReal := outOf x kn vn K C vs ln b (colG k) (colJ k) (colD k)
/-- The cached part at a batch row and a column. -/
def ctxAt (k : Fin 6400) : EReal := ctxOf x kn K C vs ln b (colG k) (colJ k) (colD k)

/-- The array of outputs. -/
def outT : S14x6400.Idx → EReal := fun i => outAt x kn vn K C vs ln (i 0) (i 1)
/-- The array of cached parts. -/
def ctxT : S14x6400.Idx → EReal := fun i => ctxAt x kn K C vs ln (i 0) (i 1)

/-- An array with the outputs at every batch row, group, head and coordinate has them at every column. -/
theorem at_column (f : S14x6400.Idx → EReal) (F : Fin 14 → Fin 5 → Fin 8 → Fin 160 → EReal)
    (h : ∀ b g j d, f (ix2 b (col g j d)) = F b g j d) (b : Fin 14) (k : Fin 6400) :
    f (ix2 b k) = F b (colG k) (colJ k) (colD k) := by
  rw [← h, col_split]

/-- An array with the outputs at every batch row, group, head and coordinate is the array of outputs. -/
theorem eq_outT (f : S14x6400.Idx → EReal) (h : ∀ b g j d, f (ix2 b (col g j d)) = outOf x kn vn K C vs ln b g j d) :
    f = outT x kn vn K C vs ln :=
  funext fun i => (congrArg f (idx_split i).symm).trans (at_column f _ h (i 0) (i 1))

/-- The same for the cached parts. -/
theorem eq_ctxT (f : S14x6400.Idx → EReal) (h : ∀ b g j d, f (ix2 b (col g j d)) = ctxOf x kn K C vs ln b g j d) :
    f = ctxT x kn K C vs ln :=
  funext fun i => (congrArg f (idx_split i).symm).trans (at_column f _ h (i 0) (i 1))

end Cert.Proof
-- ==== Proof.KFinal.lean ====
/- The kernel's run, with what its two results hold. -/
module

public import proofs.«01_k».proof.Proof.KHost
public import proofs.«01_k».proof.Proof.Target

@[expose] public section

set_option maxRecDepth 16384

noncomputable section

namespace Cert.Proof.KernelIdeal

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- The array of outputs of the arguments. -/
abbrev outM : S14x6400.Idx → EReal :=
  outT (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))
/-- The array of cached parts of the arguments. -/
abbrev ctxM : S14x6400.Idx → EReal :=
  ctxT (m ((c : Thread nD τ).loc main_arg0)) (m ((c : Thread nD τ).loc main_arg1))
    (m ((c : Thread nD τ).loc main_arg3)) (m ((c : Thread nD τ).loc main_arg4)) (m ((c : Thread nD τ).loc main_arg5))
    (m ((c : Thread nD τ).loc main_arg6))

/-- A row's scores over the cache, from what the region finds and from the arguments. -/
theorem row_score (b : Fin 14) (g : Fin 5) (j : Fin 8) :
    fullRow ((V m c main_arg6 : S14.Idx → BitVec 32) (ix1 b)) (fun e => (V m c main_v0 : S14x6400.Idx → EReal) (ix2 b (col g j e)))
      (fun t e => (V m c main_v7 : S14x800x10240.Idx → EReal) (ix3 b (grow g e) t))
    = fullRow ((m ((c : Thread nD τ).loc main_arg6) : S14.Idx → BitVec 32) (ix1 b))
      (fun e => (m ((c : Thread nD τ).loc main_arg0) : S14x1x6400.Idx → EReal) (ix3 b 0 (col g j e)))
      (fun t e => (m ((c : Thread nD τ).loc main_arg3) : S14x10240x5x160.Idx → EReal) (ix4 b t g e)) :=
  congr (congr (congrArg fullRow (congrFun (V_len m c) (ix1 b))) (funext fun e => V_x m c b (col g j e)))
    (funext fun t => funext fun e => V_k m c b g e t)

/-- A row's newest score, from what the region finds and from the arguments. -/
theorem row_new (b : Fin 14) (g : Fin 5) (j : Fin 8) :
    sNew (fun e => (V m c main_v0 : S14x6400.Idx → EReal) (ix2 b (col g j e))) (fun e => (V m c main_v2 : S5x14x160.Idx → EReal) (ix3 g b e))
    = sNew (fun e => (m ((c : Thread nD τ).loc main_arg0) : S14x1x6400.Idx → EReal) (ix3 b 0 (col g j e)))
      (fun e => (m ((c : Thread nD τ).loc main_arg1) : S14x1x5x160.Idx → EReal) (ix4 b 0 g e)) :=
  congr (congrArg sNew (funext fun e => V_x m c b (col g j e))) (funext fun e => V_kn m c b g e)

/-- What the region leaves in the results is the two arrays. -/
theorem post_value (W : (b : Ref sig .tc) → Buf (Elt Ideal) ((c.tc : Thread nD τ).loc b)) (h : Post m c W) :
    (W main_v10_0 : S14x6400.Idx → EReal) = outM m c ∧ (W main_v10_1 : S14x6400.Idx → EReal) = ctxM m c := by
  have h := spec_at _ _ _ _ _ _ _ _ _ _ h
  refine ⟨eq_outT _ _ _ _ _ _ _ _ fun b g j d => ((h b g j d).1).trans ?_, eq_ctxT _ _ _ _ _ _ _ fun b g j d => ((h b g j d).2).trans ?_⟩
  · unfold kOut outOf rowScore newScore
    exact congr (congr (congr (congr (congrArg (Attend.out ck cc) (row_score m c b g j)) (row_new m c b g j))
      (funext fun t => V_v m c b g d t)) (V_vs m c b g d)) (V_vn m c b g d)
  · unfold kCtx ctxOf rowScore newScore
    exact congr (congr (congr (congrArg (Attend.ctx ck cc) (row_score m c b g j)) (row_new m c b g j))
      (funext fun t => V_v m c b g d t)) (V_vs m c b g d)

/-- A run of the kernel ends with the outputs and the cached parts in its results, the arguments unchanged. -/
theorem run_value : θ_run defs (onTc (τ := τ) (main (F := Ideal))) ⟨m, fun _ => 0, ρ⟩ (fun r => ∀ c : Dev nD,
      r.2.mem ((c.tc : Thread nD τ).loc main_v10_0) = outM m c
      ∧ r.2.mem ((c.tc : Thread nD τ).loc main_v10_1) = ctxM m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => by
    obtain ⟨hr, W, hW, hw⟩ := h.1 c
    obtain ⟨e0, e1⟩ := post_value m c W hW
    exact ⟨(hw main_v10_0 (by decide)).trans e0, (hw main_v10_1 (by decide)).trans e1,
      (hr main_arg0 (by decide)).trans (V_main_arg0 m c), (hr main_arg1 (by decide)).trans (V_main_arg1 m c),
      (hr main_arg2 (by decide)).trans (V_main_arg2 m c), (hr main_arg3 (by decide)).trans (V_main_arg3 m c),
      (hr main_arg4 (by decide)).trans (V_main_arg4 m c), (hr main_arg5 (by decide)).trans (V_main_arg5 m c),
      (hr main_arg6 (by decide)).trans (V_main_arg6 m c)⟩) (run_main m ρ)

end Cert.Proof.KernelIdeal
-- ==== Proof.RefPure.lean ====
/- The arrays the reference computes before its last product, as functions, and their elements. -/
module

public import proofs.«01_k».proof.Proof.KSpec
public import proofs.«01_k».proof.Proof.Gen.ReferenceIdeal.Frame
public import Idealize.ShloMosaic.Lib.Pointwise

@[expose] public section

set_option maxRecDepth 16384

noncomputable section

namespace Cert.Proof.ReferenceIdeal

open Cert.ReferenceIdeal Cert.ReferenceIdeal.Gen
open Cert.Proof.KernelIdeal (cs ck cc sNew fullRow Seen ofBits_bot)
open Idealize.ShloMosaic Idealize.ShloMosaic.TcCoe

/-- Batch row `b` and group `g` as one row. -/
def pr (b : Fin 14) (g : Fin 5) : Fin 70 := ⟨5 * b.val + g.val, by omega⟩

/-- The batch row of a row. -/
theorem pr_div (b : Fin 14) (g : Fin 5) (h : (pr b g).val / 5 < 14) : (⟨(pr b g).val / 5, h⟩ : Fin 14) = b :=
  Fin.ext (by show (5 * b.val + g.val) / 5 = b.val; omega)
/-- The group of a row. -/
theorem pr_mod (b : Fin 14) (g : Fin 5) (h : (pr b g).val % 5 < 5) : (⟨(pr b g).val % 5, h⟩ : Fin 5) = g :=
  Fin.ext (by show (5 * b.val + g.val) % 5 = g.val; omega)

/-- The newest positions' scores. -/
def newF (q : FVec Ideal S14x1x5x8x160 .bf16) (kn : FVec Ideal S14x1x5x160 .bf16) : FVec Ideal S14x1x5x8 .f32 :=
  mulf (broadcastInDim S14x1x5x8 ![] bcast_S_S14x1x5x8 (constant S_ .f32 0x3DA1E89B#32))
    (Host.dotGeneral dot_S14x1x5x8x160_S14x1x5x160_S14x1x5x8_4_3_3_n_012_012 none q kn)
/-- The largest scores. -/
def topF (s : FVec Ideal S14x1x5x8x10240 .f32) (n : FVec Ideal S14x1x5x8 .f32) : FVec Ideal S14x1x5x8 .f32 :=
  maximumf (Host.reduce FloatOps.maximumf s (constant S_ .f32 0xFF800000#32) reducesTo_S14x1x5x8x10240_S14x1x5x8_d4 h_S_) n
/-- The weights. -/
def wtF (s : FVec Ideal S14x1x5x8x10240 .f32) (x : FVec Ideal S14x1x5x8 .f32) : FVec Ideal S14x1x5x8x10240 .f32 :=
  Host.exp (subf s (broadcastInDim S14x1x5x8x10240 ![0, 1, 2, 3, 4] bcast_S14x1x5x8x1_S14x1x5x8x10240_0_1_2_3_4
    (broadcastInDim S14x1x5x8x1 ![0, 1, 2, 3] bcast_S14x1x5x8_S14x1x5x8x1_0_1_2_3 x)))
/-- The newest positions' weights. -/
def wnF (n x : FVec Ideal S14x1x5x8 .f32) : FVec Ideal S14x1x5x8 .f32 := Host.exp (subf n x)
/-- The sums of the weights. -/
def denF (p : FVec Ideal S14x1x5x8x10240 .f32) (pn : FVec Ideal S14x1x5x8 .f32) : FVec Ideal S14x1x5x8 .f32 :=
  addf (Host.reduceAdd p (constant S_ .f32 0x00000000#32) reducesTo_S14x1x5x8x10240_S14x1x5x8_d4 h_S_) pn

variable (q : FVec Ideal S14x1x5x8x160 .bf16) (kn : FVec Ideal S14x1x5x160 .bf16) (s p : FVec Ideal S14x1x5x8x10240 .f32)
  (n x pn : FVec Ideal S14x1x5x8 .f32) (b : Fin 14) (g : Fin 5) (j : Fin 8) (z : Fin 1)

/-- The newest position's score of a row. -/
theorem newF_at : newF q kn (ix4 b 0 g j) = sNew (fun e => q (ix5 b 0 g j e)) (fun e => kn (ix4 b 0 g e)) := by
  pointwise [newF, sNew, cs]

/-- The reduced axis is the last one. -/
theorem red5 : S14x1x5x8x10240.Reduces [4] S14x1x5x8 := by decide

/-- A position put back on the reduced axis. -/
theorem lift5 (b : Fin 14) (g : Fin 5) (j : Fin 8) (k : Fin 10240) : red5.lift (ix4 b 0 g j) k = ix5 b 0 g j k := by
  funext a; apply Fin.ext
  match a with
  | 0 => rfl
  | 1 => rfl
  | 2 => rfl
  | 3 => rfl
  | 4 => rfl

/-- A maximum over the last axis, at an index. -/
theorem fold5 (s : S14x1x5x8x10240.Idx → EReal) (i : S_.Idx → EReal) (b : Fin 14) (g : Fin 5) (j : Fin 8) :
    Host.reduce (max : EReal → EReal → EReal) s i reducesTo_S14x1x5x8x10240_S14x1x5x8_d4 h_S_ (ix4 b 0 g j)
      = (Finset.univ : Finset (Fin 10240)).fold max (i (Shape.Idx.first h_S_)) (fun t => s (ix5 b 0 g j t)) := by
  rw [Host.reduce_eq_fold_single max s i _ red5 h_S_]
  refine congrArg (fun f => Finset.fold max _ f Finset.univ) (funext fun k => ?_)
  exact congrArg s (lift5 b g j k)

/-- The starting value of a maximum. -/
theorem start5 : (constant (F := Ideal) S_ .f32 0xFF800000#32) (Shape.Idx.first h_S_) = (⊥ : EReal) := by
  rw [constant_apply]; exact ofBits_bot

/-- The largest score of a row, from any starting value. -/
theorem top5 (i : FVec Ideal S_ .f32) (hi : i (Shape.Idx.first h_S_) = (⊥ : EReal)) :
    maximumf (Host.reduce FloatOps.maximumf s i reducesTo_S14x1x5x8x10240_S14x1x5x8_d4 h_S_) n (ix4 b 0 g j)
      = Attend.top (fun t => s (ix5 b 0 g j t)) (n (ix4 b 0 g j)) := by
  rw [ValueIdx.maximumf_apply, Ideal.maximumf_eq_max, fold5, hi]
  unfold Attend.top
  with_reducible rfl

/-- The largest score of a row. -/
theorem topF_at : topF s n (ix4 b 0 g j) = Attend.top (fun t => s (ix5 b 0 g j t)) (n (ix4 b 0 g j)) := by
  unfold topF
  exact top5 s n b g j _ start5

/-- A weight. -/
theorem wtF_at (t : Fin 10240) : wtF s x (ix5 b 0 g j t) = Ideal.exp (s (ix5 b 0 g j t) - x (ix4 b 0 g j)) := by
  pointwise [wtF]

/-- The newest position's weight of a row. -/
theorem wnF_at : wnF n x (ix4 b 0 g j) = Ideal.exp (n (ix4 b 0 g j) - x (ix4 b 0 g j)) := by
  pointwise [wnF]

/-- The sum of the weights of a row. -/
theorem denF_at : denF p pn (ix4 b 0 g j) = (∑ t, p (ix5 b 0 g j t)) + pn (ix4 b 0 g j) := by
  pointwise [denF]

/-- The weights are those of the row's attention. -/
theorem wt_row (t : Fin 10240) : wtF s (topF s n) (ix5 b 0 g j t)
    = Attend.wt (fun t => s (ix5 b 0 g j t)) (n (ix4 b 0 g j)) (s (ix5 b 0 g j t)) := by
  rw [wtF_at, topF_at]; rfl

/-- The newest position's weight is that of the row's attention. -/
theorem wn_row : wnF n (topF s n) (ix4 b 0 g j)
    = Attend.wt (fun t => s (ix5 b 0 g j t)) (n (ix4 b 0 g j)) (n (ix4 b 0 g j)) := by
  rw [wnF_at, topF_at]; rfl

/-- The sum of the weights is that of the row's attention. -/
theorem den_row : denF (wtF s (topF s n)) (wnF n (topF s n)) (ix4 b 0 g j)
    = Attend.den (fun t => s (ix5 b 0 g j t)) (n (ix4 b 0 g j)) := by
  rw [denF_at, wn_row]
  unfold Attend.den
  simp only [wt_row]

/-- The mask over the whole cache. -/
def seenF (ln : IVec S14 32) : IVec S14x10240 1 :=
  andi (cmpi .slt (broadcastInDim S14x10240 ![0, 1] bcast_S1x10240_S14x10240_0_1 (broadcastInDim S1x10240 ![1] bcast_S10240_S1x10240_1 (iotaInDim S10240 32 0)))
      (broadcastInDim S14x10240 ![0, 1] bcast_S14x1_S14x10240_0_1 (broadcastInDim S14x1 ![0] bcast_S14_S14x1_0 ln)))
    (ori (broadcastInDim S14x10240 ![0, 1] bcast_S1x10240_S14x10240_0_1
        (cmpi .slt (broadcastInDim S1x10240 ![1] bcast_S10240_S1x10240_1 (iotaInDim S10240 32 0)) (broadcastInDim S1x10240 ![] bcast_S_S1x10240 (constantI S_ 32 4#32))))
      (cmpi .sge (broadcastInDim S14x10240 ![0, 1] bcast_S1x10240_S14x10240_0_1 (broadcastInDim S1x10240 ![1] bcast_S10240_S1x10240_1 (iotaInDim S10240 32 0)))
        (broadcastInDim S14x10240 ![0, 1] bcast_S14x1_S14x10240_0_1
          (subi (broadcastInDim S14x1 ![0] bcast_S14_S14x1_0 ln) (broadcastInDim S14x1 ![] bcast_S_S14x1 (constantI S_ 32 1024#32))))))

/-- The masked scores over the whole cache. -/
def scoreF (q : FVec Ideal S14x1x5x8x160 .bf16) (K : FVec Ideal S14x10240x5x160 .bf16) (ln : IVec S14 32) : FVec Ideal S14x1x5x8x10240 .f32 :=
  select (broadcastInDim S14x1x5x8x10240 ![0, 1, 2, 3, 4] bcast_S14x1x1x1x10240_S14x1x5x8x10240_0_1_2_3_4
      (broadcastInDim S14x1x1x1x10240 ![0, 4] bcast_S14x10240_S14x1x1x1x10240_0_4 (seenF ln)))
    (mulf (broadcastInDim S14x1x5x8x10240 ![] bcast_S_S14x1x5x8x10240 (constant S_ .f32 0x3DA1E89B#32))
      (transpose S14x1x5x8x10240 [0, 3, 1, 4, 2] (Host.dotGeneral dot_S14x10240x5x160_S14x1x5x8x160_S14x5x10240x1x8_3_4_1_13_02_02 none K q)
        transposes_S14x5x10240x1x8_S14x1x5x8x10240_0_3_1_4_2))
    (broadcastInDim S14x1x5x8x10240 ![] bcast_S_S14x1x5x8x10240 (constant S_ .f32 0xFF800000#32))

/-- The mask at a position, as the scalars it is made of. -/
theorem seenF_scalars (ln : IVec S14 32) (t : Fin 10240) : seenF ln (ix2 b t)
    = IntOp.andi (IntOp.cmpi .slt (BitVec.ofNat 32 t.val) (ln (ix1 b)))
        (IntOp.ori (IntOp.cmpi .slt (BitVec.ofNat 32 t.val) 4#32) (IntOp.cmpi .sge (BitVec.ofNat 32 t.val) (ln (ix1 b) - 1024#32))) := by
  pointwise [seenF]
  rfl

/-- The mask is on exactly at the seen positions. -/
theorem seenF_seen (ln : IVec S14 32) (t : Fin 10240) : seenF ln (ix2 b t) = 1#1 ↔ Seen (ln (ix1 b)) t.val := by
  have e0 : (BitVec.ofNat 32 t.val).toInt = t.val := Cert.Proof.KernelIdeal.toInt_small (by omega)
  have e4 : (4#32 : BitVec 32).toInt = 4 := by decide
  rw [seenF_scalars, IntOp.andi_eq_one, IntOp.ori_eq_one, IntOp.cmpi_slt, IntOp.cmpi_slt, IntOp.cmpi_sge, e0, e4]
  unfold Seen
  omega

/-- The unmasked scores of a row, as the reference computes them. -/
theorem scoreF_scalars (q : FVec Ideal S14x1x5x8x160 .bf16) (K : FVec Ideal S14x10240x5x160 .bf16) (ln : IVec S14 32) (t : Fin 10240) :
    scoreF q K ln (ix5 b 0 g j t)
      = Scalar.select (seenF ln (ix2 b t)) (cs * ∑ e : Fin 160, K (ix4 b t g e) * q (ix5 b 0 g j e)) (⊥ : EReal) := by
  pointwise [scoreF, cs, ofBits_bot]

/-- The scores of a row over the whole cache. -/
theorem scoreF_at (q : FVec Ideal S14x1x5x8x160 .bf16) (K : FVec Ideal S14x10240x5x160 .bf16) (ln : IVec S14 32) (t : Fin 10240) :
    scoreF q K ln (ix5 b 0 g j t)
      = fullRow (ln (ix1 b)) (fun e => q (ix5 b 0 g j e)) (fun t e => K (ix4 b t g e)) t := by
  rw [scoreF_scalars]
  unfold fullRow
  by_cases h : Seen (ln (ix1 b)) t.val
  · rw [if_pos h, (seenF_seen b ln t).mpr h]
    show cs * _ = cs * _
    exact congrArg (cs * ·) (Finset.sum_congr rfl fun e _ => mul_comm _ _)
  · rw [if_neg h]
    exact if_neg fun hm => h ((seenF_seen b ln t).mp hm)

end Cert.Proof.ReferenceIdeal
-- ==== Proof.RefHost.lean ====
/- The buffers the reference's last product reads, as terms of the arguments. -/
module

public import proofs.«01_k».proof.Proof.RefPure
public import Idealize.ShloMosaic.Lib.StableHlo.ReadAt

@[expose] public section

set_option maxRecDepth 16384

noncomputable section

namespace Cert.Proof.ReferenceIdeal

open Cert.ReferenceIdeal Cert.ReferenceIdeal.Gen
open Idealize.ShloMosaic Idealize.ShloMosaic.TcCoe

/-- Operations run after others. -/
theorem after_two (l₁ l₂ : List (HloOp τ sig (Elt Ideal))) (U : Valuation τ sig (Elt Ideal)) :
    StableHlo.after (l₁ ++ l₂) U = StableHlo.after l₂ (StableHlo.after l₁ U) := by
  induction l₁ generalizing U with
  | nil => rfl
  | cons op l ih => exact ih _

variable (U : Valuation τ sig (Elt Ideal))

/-- The last host lines leave the weights, one row per batch row and group. -/
theorem read_v36 : (StableHlo.after hostOps0_2 U main_v36 : S70x8x10240.Idx → EReal)
    = shapeCast S70x8x10240 (wtF (U main_v22) (topF (U main_v22) (newF (U main_v0) (U main_arg1)))) shapeCasts_S14x1x5x8x10240_S70x8x10240 := by
  after_reads_simp
  rfl

/-- The value codes, one row per batch row and group. -/
theorem read_v38 : (StableHlo.after hostOps0_2 U main_v38 : S70x160x10240.Idx → EReal)
    = shapeCast S70x160x10240 (transpose S14x5x160x10240 [0, 2, 3, 1] (U main_arg4) transposes_S14x10240x5x160_S14x5x160x10240_0_2_3_1)
      shapeCasts_S14x5x160x10240_S70x160x10240 := by
  after_reads_simp
  rfl

/-- The value scales. -/
theorem read_v39 : (StableHlo.after hostOps0_2 U main_v39 : S70x1x160.Idx → EReal)
    = shapeCast S70x1x160 (U main_arg5) shapeCasts_S14x5x160_S70x1x160 := by
  after_reads_simp
  rfl

/-- The newest positions' values. -/
theorem read_v40 : (StableHlo.after hostOps0_2 U main_v40 : S70x1x160.Idx → EReal)
    = shapeCast S70x1x160 (U main_arg2) shapeCasts_S14x1x5x160_S70x1x160 := by
  after_reads_simp
  rfl

/-- The newest positions' weights. -/
theorem read_v41 : (StableHlo.after hostOps0_2 U main_v41 : S70x8x1.Idx → EReal)
    = shapeCast S70x8x1 (wnF (newF (U main_v0) (U main_arg1)) (topF (U main_v22) (newF (U main_v0) (U main_arg1)))) shapeCasts_S14x1x5x8_S70x8x1 := by
  after_reads_simp
  rfl

/-- The sums of the weights. -/
theorem read_v42 : (StableHlo.after hostOps0_2 U main_v42 : S70x8x1.Idx → EReal)
    = shapeCast S70x8x1 (denF (wtF (U main_v22) (topF (U main_v22) (newF (U main_v0) (U main_arg1))))
        (wnF (newF (U main_v0) (U main_arg1)) (topF (U main_v22) (newF (U main_v0) (U main_arg1))))) shapeCasts_S14x1x5x8_S70x8x1 := by
  after_reads_simp
  rfl

/-- The lines choosing the seen scores. -/
theorem read_v22_where : (StableHlo.after hostOps0_1 U main_v22 : S14x1x5x8x10240.Idx → EReal)
    = select (broadcastInDim S14x1x5x8x10240 ![0, 1, 2, 3, 4] bcast_S14x1x1x1x10240_S14x1x5x8x10240_0_1_2_3_4 (U main_v21 : IVec S14x1x1x1x10240 1))
        (U main_v4) (broadcastInDim S14x1x5x8x10240 ![] bcast_S_S14x1x5x8x10240 (U main_cst_1)) := by
  after_reads_simp
  rfl

/-- The mask. -/
theorem read_v21 : (StableHlo.after hostOps0 U main_v21 : S14x1x1x1x10240.Idx → BitVec 1)
    = broadcastInDim S14x1x1x1x10240 ![0, 4] bcast_S14x10240_S14x1x1x1x10240_0_4 (seenF (U main_arg6)) := by
  after_reads_simp
  rfl

/-- The query, one row per group and head. -/
theorem read_v0 : (StableHlo.after hostOps0 U main_v0 : S14x1x5x8x160.Idx → EReal)
    = shapeCast S14x1x5x8x160 (U main_arg0) shapeCasts_S14x1x6400_S14x1x5x8x160 := by
  after_reads_simp
  rfl

/-- The scaled scores. -/
theorem read_v4 : (StableHlo.after hostOps0 U main_v4 : S14x1x5x8x10240.Idx → EReal)
    = mulf (broadcastInDim S14x1x5x8x10240 ![] bcast_S_S14x1x5x8x10240 (constant (F := Ideal) S_ .f32 0x3DA1E89B#32))
      (transpose S14x1x5x8x10240 [0, 3, 1, 4, 2]
        (Host.dotGeneral (F := Ideal) (φ₁ := .bf16) (φ₂ := .bf16) dot_S14x10240x5x160_S14x1x5x8x160_S14x5x10240x1x8_3_4_1_13_02_02 none (U main_arg3)
          (shapeCast S14x1x5x8x160 (U main_arg0) shapeCasts_S14x1x6400_S14x1x5x8x160))
        transposes_S14x5x10240x1x8_S14x1x5x8x10240_0_3_1_4_2) := by
  after_reads_simp
  rfl

/-- The score of an unseen position. -/
theorem read_cst_1 : (StableHlo.after hostOps0 U main_cst_1 : S_.Idx → EReal) = constant (F := Ideal) S_ .f32 0xFF800000#32 := by
  after_reads_simp

/-- The scores after the first lines. -/
theorem read_v22 : (StableHlo.after hostOps0_1 (StableHlo.after hostOps0 U) main_v22 : S14x1x5x8x10240.Idx → EReal)
    = scoreF (shapeCast S14x1x5x8x160 (U main_arg0) shapeCasts_S14x1x6400_S14x1x5x8x160) (U main_arg3) (U main_arg6) := by
  rw [read_v22_where, read_v21, read_v4, read_cst_1]
  rfl

end Cert.Proof.ReferenceIdeal
-- ==== Proof.RefArr.lean ====
/- The reference's last product: the arrays its kernel leaves. -/
module

public import proofs.«01_k».proof.Proof.RefPure
public import Idealize.ShloMosaic.Lib.Pipeline.ValueKit

@[expose] public section

set_option maxRecDepth 16384

noncomputable section

namespace Cert.Proof.ReferenceIdeal

open Cert.ReferenceIdeal Cert.ReferenceIdeal.Gen
open Idealize.ShloMosaic Idealize.ShloMosaic.TcCoe Idealize.ShloMosaic.Pipeline

variable (m : (ℓ : Loc nD τ sig) → Buf (Elt Ideal) ℓ) (c : Dev nD)

/-- A block index of a whole window is zero. -/
theorem zero_mul_add (a k y : ℕ) (h : a = 0) : a * k + y = y := by subst h; omega

/-- The kernel reads the whole array of weights. -/
theorem iblk_0 (t : Fin cfg0.N) : (iblk m c 0 t : S70x8x10240.Idx → EReal) = V m c main_v36 := by
  funext y; show V m c main_v36 (((cfg0.win 0).blk t).view.emb y) = _
  blk_point [iblk, V] <;> first | exact zero_mul_add _ _ _ rfl | rfl

/-- The kernel reads the whole array of codes. -/
theorem iblk_1 (t : Fin cfg0.N) : (iblk m c 1 t : S70x160x10240.Idx → EReal) = V m c main_v38 := by
  funext y; show V m c main_v38 (((cfg0.win 1).blk t).view.emb y) = _
  blk_point [iblk, V] <;> first | exact zero_mul_add _ _ _ rfl | rfl

/-- The kernel reads the whole array of scales. -/
theorem iblk_2 (t : Fin cfg0.N) : (iblk m c 2 t : S70x1x160.Idx → EReal) = V m c main_v39 := by
  funext y; show V m c main_v39 (((cfg0.win 2).blk t).view.emb y) = _
  blk_point [iblk, V] <;> first | exact zero_mul_add _ _ _ rfl | rfl

/-- The kernel reads the whole array of newest values. -/
theorem iblk_3 (t : Fin cfg0.N) : (iblk m c 3 t : S70x1x160.Idx → EReal) = V m c main_v40 := by
  funext y; show V m c main_v40 (((cfg0.win 3).blk t).view.emb y) = _
  blk_point [iblk, V] <;> first | exact zero_mul_add _ _ _ rfl | rfl

/-- The kernel reads the whole array of newest weights. -/
theorem iblk_4 (t : Fin cfg0.N) : (iblk m c 4 t : S70x8x1.Idx → EReal) = V m c main_v41 := by
  funext y; show V m c main_v41 (((cfg0.win 4).blk t).view.emb y) = _
  blk_point [iblk, V] <;> first | exact zero_mul_add _ _ _ rfl | rfl

/-- The kernel reads the whole array of sums. -/
theorem iblk_5 (t : Fin cfg0.N) : (iblk m c 5 t : S70x8x1.Idx → EReal) = V m c main_v42 := by
  funext y; show V m c main_v42 (((cfg0.win 5).blk t).view.emb y) = _
  blk_point [iblk, V] <;> first | exact zero_mul_add _ _ _ rfl | rfl

/-- The array of attention outputs. -/
theorem arr_6 : ((dats m 0 c).arrAt 6 cfg0.N : S70x8x160.Idx → EReal)
    = k0_pay3 (F := Ideal) (V m c main_v36) (V m c main_v38) (V m c main_v39) (V m c main_v42) (V m c main_v41) (V m c main_v40) := by
  refine (dats m 0 c).arrAt_eq_of_covers 6 _ (by decide +kernel) fun t hf y => ?_
  rw [after0_6]
  unfold out0_6
  rw [iblk_0, iblk_1, iblk_2, iblk_3, iblk_4, iblk_5]
  frame_out
  refine congrArg (k0_pay3 (F := Ideal) (V m c main_v36) (V m c main_v38) (V m c main_v39) (V m c main_v42) (V m c main_v41) (V m c main_v40)) ?_
  funext a; apply Fin.ext
  blk_simp
  exact (zero_mul_add _ _ _ rfl).symm

/-- The array of attention contexts. -/
theorem arr_7 : ((dats m 0 c).arrAt 7 cfg0.N : S70x8x160.Idx → EReal)
    = k0_pay2 (F := Ideal) (V m c main_v36) (V m c main_v38) (V m c main_v39) (V m c main_v42) := by
  refine (dats m 0 c).arrAt_eq_of_covers 7 _ (by decide +kernel) fun t hf y => ?_
  rw [after0_7]
  unfold out0_7
  rw [iblk_0, iblk_1, iblk_2, iblk_5]
  frame_out
  refine congrArg (k0_pay2 (F := Ideal) (V m c main_v36) (V m c main_v38) (V m c main_v39) (V m c main_v42)) ?_
  funext a; apply Fin.ext
  blk_simp
  exact (zero_mul_add _ _ _ rfl).symm

end Cert.Proof.ReferenceIdeal
-- ==== Proof.RefCast.lean ====
/- Arrays seen in another shape, at an index. -/
module

public import proofs.«01_k».proof.Proof.RefPure
public import Idealize.ShloMosaic.Lib.Pointwise

@[expose] public section

set_option maxRecDepth 16384

noncomputable section

namespace Cert.Proof.ReferenceIdeal

open Cert.ReferenceIdeal Cert.ReferenceIdeal.Gen
open Cert.Proof.KernelIdeal (col)
open Idealize.ShloMosaic Idealize.ShloMosaic.TcCoe

variable (b : Fin 14) (g : Fin 5) (j : Fin 8) (d : Fin 160) (t : Fin 10240)

/-- Weights by batch row, group and head. -/
theorem cast_wt (w : FVec Ideal S14x1x5x8x10240 .f32) :
    shapeCast S70x8x10240 w shapeCasts_S14x1x5x8x10240_S70x8x10240 (ix3 (pr b g) j t) = w (ix5 b 0 g j t) := by
  pointwise []
  simp only [pr_div, pr_mod]

/-- Codes by batch row, group and dimension. -/
theorem cast_codes (w : FVec Ideal S14x10240x5x160 .fp8e4m3) :
    shapeCast S70x160x10240 (transpose S14x5x160x10240 [0, 2, 3, 1] w transposes_S14x10240x5x160_S14x5x160x10240_0_2_3_1)
      shapeCasts_S14x5x160x10240_S70x160x10240 (ix3 (pr b g) d t) = w (ix4 b t g d) := by
  pointwise []
  simp only [pr_div, pr_mod]

/-- Scales by batch row, group and dimension. -/
theorem cast_scale (w : FVec Ideal S14x5x160 .f32) :
    shapeCast S70x1x160 w shapeCasts_S14x5x160_S70x1x160 (ix3 (pr b g) 0 d) = w (ix3 b g d) := by
  pointwise []
  simp only [pr_div, pr_mod]

/-- Newest values by batch row, group and dimension. -/
theorem cast_new (w : FVec Ideal S14x1x5x160 .bf16) :
    shapeCast S70x1x160 w shapeCasts_S14x1x5x160_S70x1x160 (ix3 (pr b g) 0 d) = w (ix4 b 0 g d) := by
  pointwise []
  simp only [pr_div, pr_mod]

/-- One number per batch row, group and head. -/
theorem cast_head (w : FVec Ideal S14x1x5x8 .f32) :
    shapeCast S70x8x1 w shapeCasts_S14x1x5x8_S70x8x1 (ix3 (pr b g) j 0) = w (ix4 b 0 g j) := by
  pointwise []
  simp only [pr_div, pr_mod]

/-- Queries by batch row, group and head. -/
theorem cast_query (w : FVec Ideal S14x1x6400 .bf16) :
    shapeCast S14x1x5x8x160 w shapeCasts_S14x1x6400_S14x1x5x8x160 (ix5 b 0 g j d) = w (ix3 b 0 (col g j d)) := by
  pointwise []
  exact congrArg (fun k => w (ix3 b 0 k)) (Fin.ext (by show g.val * 1280 + j.val * 160 + d.val = 160 * (8 * g.val + j.val) + d.val; omega))

/-- Results by batch row and column. -/
theorem cast_out (φ : FTy) (w : FVec Ideal S70x8x160 φ) :
    shapeCast S14x6400 w shapeCasts_S70x8x160_S14x6400 (ix2 b (col g j d)) = w (ix3 (pr b g) j d) := by
  pointwise []
  have e1 : ∀ h, (⟨b.val * 5 + (col g j d).val / 1280, h⟩ : Fin 70) = pr b g := fun h =>
    Fin.ext (by show b.val * 5 + (160 * (8 * g.val + j.val) + d.val) / 1280 = 5 * b.val + g.val; omega)
  have e2 : ∀ h, (⟨(col g j d).val / 160 % 8, h⟩ : Fin 8) = j := fun h =>
    Fin.ext (by show (160 * (8 * g.val + j.val) + d.val) / 160 % 8 = j.val; omega)
  have e3 : ∀ h, (⟨(col g j d).val % 160, h⟩ : Fin 160) = d := fun h =>
    Fin.ext (by show (160 * (8 * g.val + j.val) + d.val) % 160 = d.val; omega)
  rw [e1, e2, e3]

end Cert.Proof.ReferenceIdeal
-- ==== Proof.RefPay.lean ====
/- The reference's last product at an index. -/
module

public import proofs.«01_k».proof.Proof.RefPure

@[expose] public section

set_option maxRecDepth 16384

noncomputable section

namespace Cert.Proof.ReferenceIdeal

open Cert.ReferenceIdeal Cert.ReferenceIdeal.Gen
open Cert.Proof.KernelIdeal (cs ck cc sNew fullRow Seen ofBits_bot)
open Idealize.ShloMosaic Idealize.ShloMosaic.TcCoe

variable (p : Vec Ideal S70x8x10240 .f32) (v : Vec Ideal S70x160x10240 .fp8e4m3) (vs : Vec Ideal S70x1x160 .f32)
  (l pn : Vec Ideal S70x8x1 .f32) (vn : Vec Ideal S70x1x160 .bf16) (r : Fin 70) (j : Fin 8) (d : Fin 160)

/-- The cached part, from the weights and the codes. -/
theorem pay2_at : k0_pay2 (F := Ideal) p v vs l (ix3 r j d)
    = Ideal.div ((∑ t : Fin 10240, min (p (ix3 r j t) * ck) ck * v (ix3 r d t)) * cc * vs (ix3 r 0 d)) (l (ix3 r j 0)) := by
  pointwise [k0_pay2, k0_pay1, ck, cc]

/-- The output, from the weights and the codes. -/
theorem pay3_at : k0_pay3 (F := Ideal) p v vs l pn vn (ix3 r j d)
    = Ideal.div ((∑ t : Fin 10240, min (p (ix3 r j t) * ck) ck * v (ix3 r d t)) * cc * vs (ix3 r 0 d)) (l (ix3 r j 0))
      + Ideal.div (pn (ix3 r j 0) * vn (ix3 r 0 d)) (l (ix3 r j 0)) := by
  pointwise [k0_pay3, k0_pay1, pay2_at]

end Cert.Proof.ReferenceIdeal
-- ==== Proof.RefVal.lean ====
/- The reference's results, one number at a time. -/
module

public import proofs.«01_k».proof.Proof.RefHost
public import proofs.«01_k».proof.Proof.RefArr
public import proofs.«01_k».proof.Proof.RefCast
public import proofs.«01_k».proof.Proof.RefPay

@[expose] public section

set_option maxRecDepth 16384

noncomputable section

namespace Cert.Proof.ReferenceIdeal

open Cert.ReferenceIdeal Cert.ReferenceIdeal.Gen
open Cert.Proof.KernelIdeal (cs ck cc sNew fullRow col)
open Idealize.ShloMosaic Idealize.ShloMosaic.TcCoe

section Pure

variable (q : FVec Ideal S14x1x5x8x160 .bf16) (K : FVec Ideal S14x10240x5x160 .bf16) (ln : IVec S14 32)
  (kn vn : FVec Ideal S14x1x5x160 .bf16) (C : FVec Ideal S14x10240x5x160 .fp8e4m3) (vs : FVec Ideal S14x5x160 .f32)
  (b : Fin 14) (g : Fin 5) (j : Fin 8) (d : Fin 160)

/-- The weights handed to the last product. -/
def pF : FVec Ideal S70x8x10240 .f32 :=
  shapeCast S70x8x10240 (wtF (scoreF q K ln) (topF (scoreF q K ln) (newF q kn))) shapeCasts_S14x1x5x8x10240_S70x8x10240
/-- The newest positions' weights handed to the last product. -/
def pnF : FVec Ideal S70x8x1 .f32 :=
  shapeCast S70x8x1 (wnF (newF q kn) (topF (scoreF q K ln) (newF q kn))) shapeCasts_S14x1x5x8_S70x8x1
/-- The sums of weights handed to the last product. -/
def lF : FVec Ideal S70x8x1 .f32 :=
  shapeCast S70x8x1 (denF (wtF (scoreF q K ln) (topF (scoreF q K ln) (newF q kn)))
    (wnF (newF q kn) (topF (scoreF q K ln) (newF q kn)))) shapeCasts_S14x1x5x8_S70x8x1
/-- The codes handed to the last product. -/
def vF : FVec Ideal S70x160x10240 .fp8e4m3 :=
  shapeCast S70x160x10240 (transpose S14x5x160x10240 [0, 2, 3, 1] C transposes_S14x10240x5x160_S14x5x160x10240_0_2_3_1)
      shapeCasts_S14x5x160x10240_S70x160x10240

/-- A row's scores over the cache. -/
abbrev rowS : Fin 10240 → EReal := fullRow (ln (ix1 b)) (fun e => q (ix5 b 0 g j e)) (fun t e => K (ix4 b t g e))
/-- A row's newest score. -/
abbrev rowN : EReal := sNew (fun e => q (ix5 b 0 g j e)) (fun e => kn (ix4 b 0 g e))

/-- The scores of a row, as a function of the position. -/
theorem scoreF_row : (fun t => scoreF q K ln (ix5 b 0 g j t)) = rowS q K ln b g j := funext fun t => scoreF_at _ _ _ _ _ _ t

/-- A weight handed over is one of its row's attention. -/
theorem pF_at (t : Fin 10240) : pF q K ln kn (ix3 (pr b g) j t)
    = Attend.wt (rowS q K ln b g j) (rowN q kn b g j) (rowS q K ln b g j t) := by
  unfold pF
  rw [cast_wt, wt_row, scoreF_row, newF_at, scoreF_at]

/-- The newest weight handed over is that of its row's attention. -/
theorem pnF_at : pnF q K ln kn (ix3 (pr b g) j 0)
    = Attend.wt (rowS q K ln b g j) (rowN q kn b g j) (rowN q kn b g j) := by
  unfold pnF
  rw [cast_head, wn_row, scoreF_row, newF_at]

/-- The sum handed over is that of its row's attention. -/
theorem lF_at : lF q K ln kn (ix3 (pr b g) j 0) = Attend.den (rowS q K ln b g j) (rowN q kn b g j) := by
  unfold lF
  rw [cast_head, den_row, scoreF_row, newF_at]

/-- A code handed over. -/
theorem vF_at (t : Fin 10240) : vF C (ix3 (pr b g) d t) = C (ix4 b t g d) := cast_codes b g d t C

/-- The context the last product gives. -/
theorem pay2_row : k0_pay2 (F := Ideal) (pF q K ln kn) (vF C) (shapeCast S70x1x160 vs shapeCasts_S14x5x160_S70x1x160) (lF q K ln kn) (ix3 (pr b g) j d)
    = Attend.ctx ck cc (rowS q K ln b g j) (rowN q kn b g j) (fun t => C (ix4 b t g d)) (vs (ix3 b g d)) := by
  rw [pay2_at, lF_at, cast_scale]
  simp only [pF_at, vF_at]
  rfl

/-- The output the last product gives. -/
theorem pay3_row : k0_pay3 (F := Ideal) (pF q K ln kn) (vF C) (shapeCast S70x1x160 vs shapeCasts_S14x5x160_S70x1x160) (lF q K ln kn)
      (pnF q K ln kn) (shapeCast S70x1x160 vn shapeCasts_S14x1x5x160_S70x1x160) (ix3 (pr b g) j d)
    = Attend.out ck cc (rowS q K ln b g j) (rowN q kn b g j) (fun t => C (ix4 b t g d)) (vs (ix3 b g d)) (vn (ix4 b 0 g d)) := by
  rw [pay3_at, lF_at, cast_scale, cast_new, pnF_at]
  simp only [pF_at, vF_at]
  rfl

end Pure

section Keep

variable (U : Valuation τ sig (Elt Ideal))

/-- The choosing lines leave the query. -/
theorem keep_v0 : StableHlo.after hostOps0_1 U main_v0 = U main_v0 := by funext i; after_reads_at
/-- The first lines leave the newest keys. -/
theorem keep_arg1 : StableHlo.after hostOps0_1 (StableHlo.after hostOps0 U) main_arg1 = U main_arg1 := by funext i; after_reads_at
/-- The first lines leave the newest values. -/
theorem keep_arg2 : StableHlo.after hostOps0_1 (StableHlo.after hostOps0 U) main_arg2 = U main_arg2 := by funext i; after_reads_at
/-- The first lines leave the codes. -/
theorem keep_arg4 : StableHlo.after hostOps0_1 (StableHlo.after hostOps0 U) main_arg4 = U main_arg4 := by funext i; after_reads_at
/-- The first lines leave the scales. -/
theorem keep_arg5 : StableHlo.after hostOps0_1 (StableHlo.after hostOps0 U) main_arg5 = U main_arg5 := by funext i; after_reads_at

end Keep

variable (m : (ℓ : Loc nD τ sig) → Buf (Elt Ideal) ℓ) (c : Dev nD)

/-- The queries, one row per group and head. -/
abbrev qF : FVec Ideal S14x1x5x8x160 .bf16 :=
  shapeCast S14x1x5x8x160 (m ((c : Thread nD τ).loc main_arg0) : FVec Ideal S14x1x6400 .bf16) shapeCasts_S14x1x6400_S14x1x5x8x160

/-- The host lines before the last product, in three stretches. -/
theorem V_three (b : Ref sig .tc) : V m c b
    = StableHlo.after hostOps0_2 (StableHlo.after hostOps0_1 (StableHlo.after hostOps0 (fun b => m (c, b)))) (Proc.devRef .tc b) := by
  show StableHlo.after (hostOps0 ++ (hostOps0_1 ++ (hostOps0_2 ++ []))) _ _ = _
  rw [after_two, after_two, List.append_nil]

/-- The weights the last product reads. -/
theorem V_p : (V m c main_v36 : S70x8x10240.Idx → EReal)
    = pF (qF m c) (m ((c : Thread nD τ).loc main_arg3)) (m ((c : Thread nD τ).loc main_arg6)) (m ((c : Thread nD τ).loc main_arg1)) := by
  rw [V_three, read_v36, read_v22, keep_v0, read_v0, keep_arg1]
  rfl

/-- The codes the last product reads. -/
theorem V_c : (V m c main_v38 : S70x160x10240.Idx → EReal) = vF (m ((c : Thread nD τ).loc main_arg4)) := by
  rw [V_three, read_v38, keep_arg4]
  rfl

/-- The scales the last product reads. -/
theorem V_s : (V m c main_v39 : S70x1x160.Idx → EReal)
    = shapeCast S70x1x160 (m ((c : Thread nD τ).loc main_arg5) : S14x5x160.Idx → EReal) shapeCasts_S14x5x160_S70x1x160 := by
  rw [V_three, read_v39, keep_arg5]

/-- The newest values the last product reads. -/
theorem V_n : (V m c main_v40 : S70x1x160.Idx → EReal)
    = shapeCast S70x1x160 (m ((c : Thread nD τ).loc main_arg2) : S14x1x5x160.Idx → EReal) shapeCasts_S14x1x5x160_S70x1x160 := by
  rw [V_three, read_v40, keep_arg2]

/-- The newest weights the last product reads. -/
theorem V_pn : (V m c main_v41 : S70x8x1.Idx → EReal)
    = pnF (qF m c) (m ((c : Thread nD τ).loc main_arg3)) (m ((c : Thread nD τ).loc main_arg6)) (m ((c : Thread nD τ).loc main_arg1)) := by
  rw [V_three, read_v41, read_v22, keep_v0, read_v0, keep_arg1]
  rfl

/-- The sums of weights the last product reads. -/
theorem V_l : (V m c main_v42 : S70x8x1.Idx → EReal)
    = lF (qF m c) (m ((c : Thread nD τ).loc main_arg3)) (m ((c : Thread nD τ).loc main_arg6)) (m ((c : Thread nD τ).loc main_arg1)) := by
  rw [V_three, read_v42, read_v22, keep_v0, read_v0, keep_arg1]
  rfl

variable (b : Fin 14) (g : Fin 5) (j : Fin 8) (d : Fin 160)

/-- A row's scores over the cache, from the arguments. -/
abbrev argS : Fin 10240 → EReal :=
  fullRow ((m ((c : Thread nD τ).loc main_arg6) : S14.Idx → BitVec 32) (ix1 b))
    (fun e => (m ((c : Thread nD τ).loc main_arg0) : S14x1x6400.Idx → EReal) (ix3 b 0 (col g j e)))
    (fun t e => (m ((c : Thread nD τ).loc main_arg3) : S14x10240x5x160.Idx → EReal) (ix4 b t g e))
/-- A row's newest score, from the arguments. -/
abbrev argN : EReal :=
  sNew (fun e => (m ((c : Thread nD τ).loc main_arg0) : S14x1x6400.Idx → EReal) (ix3 b 0 (col g j e)))
    (fun e => (m ((c : Thread nD τ).loc main_arg1) : S14x1x5x160.Idx → EReal) (ix4 b 0 g e))

/-- The queries of a row, from the argument. -/
theorem qF_row : (fun e => qF m c (ix5 b 0 g j e))
    = fun e => (m ((c : Thread nD τ).loc main_arg0) : S14x1x6400.Idx → EReal) (ix3 b 0 (col g j e)) :=
  funext fun e => cast_query b g j e _

/-- An attention context, from the arguments. -/
theorem arr_7_at : ((dats m 0 c).arrAt 7 cfg0.N : S70x8x160.Idx → EReal) (ix3 (pr b g) j d)
    = Attend.ctx ck cc (argS m c b g j) (argN m c b g j)
        (fun t => (m ((c : Thread nD τ).loc main_arg4) : S14x10240x5x160.Idx → EReal) (ix4 b t g d))
        ((m ((c : Thread nD τ).loc main_arg5) : S14x5x160.Idx → EReal) (ix3 b g d)) := by
  rw [arr_7, V_p, V_c, V_s, V_l]
  refine (pay2_row _ _ _ _ _ _ b g j d).trans ?_
  unfold rowS rowN
  rw [qF_row]

/-- An attention output, from the arguments. -/
theorem arr_6_at : ((dats m 0 c).arrAt 6 cfg0.N : S70x8x160.Idx → EReal) (ix3 (pr b g) j d)
    = Attend.out ck cc (argS m c b g j) (argN m c b g j)
        (fun t => (m ((c : Thread nD τ).loc main_arg4) : S14x10240x5x160.Idx → EReal) (ix4 b t g d))
        ((m ((c : Thread nD τ).loc main_arg5) : S14x5x160.Idx → EReal) (ix3 b g d))
        ((m ((c : Thread nD τ).loc main_arg2) : S14x1x5x160.Idx → EReal) (ix4 b 0 g d)) := by
  rw [arr_6, V_p, V_c, V_s, V_l, V_pn, V_n]
  refine (pay3_row _ _ _ _ _ _ _ b g j d).trans ?_
  unfold rowS rowN
  rw [qF_row]

end Cert.Proof.ReferenceIdeal
-- ==== Proof.RefFinal.lean ====
/- The reference's run, with what its two results hold. -/
module

public import proofs.«01_k».proof.Proof.RefVal
public import proofs.«01_k».proof.Proof.Target

@[expose] public section

set_option maxRecDepth 16384

noncomputable section

namespace Cert.Proof.ReferenceIdeal

open Cert.ReferenceIdeal Cert.ReferenceIdeal.Gen
open Idealize.ShloMosaic Idealize.ShloMosaic.TcCoe Idealize.SL.Sem

variable (m : (ℓ : Loc nD τ sig) → Buf (Elt Ideal) ℓ) (ρ : Dev nD → PrngReg) (c : Dev nD)

/-- The array of outputs of the arguments. -/
abbrev outM : S14x6400.Idx → EReal :=
  outT (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))
/-- The array of cached parts of the arguments. -/
abbrev ctxM : S14x6400.Idx → EReal :=
  ctxT (m ((c : Thread nD τ).loc main_arg0)) (m ((c : Thread nD τ).loc main_arg1))
    (m ((c : Thread nD τ).loc main_arg3)) (m ((c : Thread nD τ).loc main_arg4)) (m ((c : Thread nD τ).loc main_arg5))
    (m ((c : Thread nD τ).loc main_arg6))

/-- The last lines reshape the first array. -/
theorem tail_v44 (U : Valuation τ sig (Elt Ideal)) : (StableHlo.after hostOps1 U main_v44 : S14x6400.Idx → EReal)
    = shapeCast S14x6400 (U main_v43_0 : S70x8x160.Idx → EReal) shapeCasts_S70x8x160_S14x6400 := by
  after_reads_simp
  rfl

/-- And the second. -/
theorem tail_v45 (U : Valuation τ sig (Elt Ideal)) : (StableHlo.after hostOps1 U main_v45 : S14x6400.Idx → EReal)
    = shapeCast S14x6400 (U main_v43_1 : S70x8x160.Idx → EReal) shapeCasts_S70x8x160_S14x6400 := by
  after_reads_simp
  rfl

/-- The windows are on different arrays. -/
theorem arr_inj : Function.Injective (Pipeline.arrRef spec0) := by
  unfold Function.Injective
  decide

/-- What the last lines find in the first array. -/
theorem found_6 : (Pipeline.withArrays spec0 c (V0 m c) (fun w => (dats m 0 c).arrAt w cfg0.N) (Proc.devRef .tc main_v43_0) : S70x8x160.Idx → EReal)
    = (dats m 0 c).arrAt 6 cfg0.N := Pipeline.withArrays_arr spec0 arr_inj c (V0 m c) (fun w => (dats m 0 c).arrAt w cfg0.N) 6

/-- And in the second. -/
theorem found_7 : (Pipeline.withArrays spec0 c (V0 m c) (fun w => (dats m 0 c).arrAt w cfg0.N) (Proc.devRef .tc main_v43_1) : S70x8x160.Idx → EReal)
    = (dats m 0 c).arrAt 7 cfg0.N := Pipeline.withArrays_arr spec0 arr_inj c (V0 m c) (fun w => (dats m 0 c).arrAt w cfg0.N) 7

/-- The first result is the array of outputs. -/
theorem W_v44 : (Pipeline.afterTail₀ cfgs (dats m) 0 (V0 m) [hostOps1] c main_v44 : S14x6400.Idx → EReal) = outM m c := by
  refine eq_outT _ _ _ _ _ _ _ _ fun b g j d => ?_
  show (StableHlo.after hostOps1 (Pipeline.withArrays spec0 c (V0 m c) (fun w => (dats m 0 c).arrAt w cfg0.N)) main_v44 : S14x6400.Idx → EReal) _ = _
  rw [tail_v44, found_6]
  exact (cast_out b g j d .bf16 _).trans (arr_6_at m c b g j d)

/-- The second result is the array of cached parts. -/
theorem W_v45 : (Pipeline.afterTail₀ cfgs (dats m) 0 (V0 m) [hostOps1] c main_v45 : S14x6400.Idx → EReal) = ctxM m c := by
  refine eq_ctxT _ _ _ _ _ _ _ fun b g j d => ?_
  show (StableHlo.after hostOps1 (Pipeline.withArrays spec0 c (V0 m c) (fun w => (dats m 0 c).arrAt w cfg0.N)) main_v45 : S14x6400.Idx → EReal) _ = _
  rw [tail_v45, found_7]
  exact (cast_out b g j d .f32 _).trans (arr_7_at m c b g j d)

/-- A run of the reference ends with the outputs and the cached parts in its results, the arguments unchanged. -/
theorem run_value : θ_run defs (onTc (τ := τ) (main (F := Ideal))) ⟨m, fun _ => 0, ρ⟩ (fun r => ∀ c : Dev nD,
      r.2.mem ((c.tc : Thread nD τ).loc main_v44) = outM m c
      ∧ r.2.mem ((c.tc : Thread nD τ).loc main_v45) = ctxM m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).2 main_v44 (Pipeline.mem_restRefs_of main_v44 (by decide) (by decide))).trans (W_v44 m c),
      ((h c).2 main_v45 (Pipeline.mem_restRefs_of main_v45 (by decide) (by decide))).trans (W_v45 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.Proof.ReferenceIdeal
-- ==== Proof.lean ====
/- The proof of the claim: the kernel's frame in both printed forms, the reference's frame, and the two agreeing. -/
module

public import proofs.«01_k».proof.Defs
public import proofs.«01_k».proof.Proof.Transport
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.KFinal
public import proofs.«01_k».proof.Proof.RefFinal
public import Idealize.ShloMosaic.Adequacy
public import Idealize.ShloMosaic.Init

@[expose] public section

noncomputable section

namespace Cert.Proof

open Idealize.ShloMosaic Idealize.SL.Sem

/-- The arrays both programs compute are functions of the arguments, so they agree where the arguments do. -/
theorem agree : Cert.algebraic_KernelIdeal_ReferenceIdeal (hKernelIdeal := Cert.KernelIdeal.Gen.facts)
    (hReferenceIdeal := Cert.ReferenceIdeal.Gen.facts) := by
  intro m g m' g' _ h
  refine ⟨fun c => KernelIdeal.outM m c, fun c => KernelIdeal.ctxM m c, KernelIdeal.run_value m g, ?_⟩
  refine (θ_run _ _ _).mono (fun r hr c => ?_) (ReferenceIdeal.run_value m' g')
  obtain ⟨h0, h1, h2, h3, h4, h5, h6⟩ := h c
  obtain ⟨e0, e1, e2⟩ := hr c
  refine ⟨e0.trans ?_, e1.trans ?_, e2⟩
  · unfold ReferenceIdeal.outM
    rw [h0, h1, h2, h3, h4, h5, h6]
  · unfold ReferenceIdeal.ctxM
    rw [h0, h1, h3, h4, h5, h6]

/-- The claim. -/
theorem claim : Cert.Claim := ⟨Cert.Kernel.Gen.facts, Cert.KernelIdeal.Gen.facts, Cert.ReferenceIdeal.Gen.facts,
  fun m g _ => kernel_frame (F := Bits) m g,
  fun m g _ => KernelIdeal.frame m g,
  fun m g _ => Cert.ReferenceIdeal.Gen.frame m g,
  trivial,
  agree⟩

end Cert.Proof

end
